-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 512, 8, 64]⟩ ⟨4, ![4, 512, 16, 64]⟩ (Layout.meshBlock [2, 2, 2] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 1024]⟩ (Layout.meshBlock [2, 2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨3, ![4, 256, 1024]⟩ ⟨3, ![4, 512, 1024]⟩ (Layout.meshBlock [2, 2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x8x64 : Shape := ⟨4, ![4, 512, 8, 64]⟩
abbrev S512x1024 : Shape := ⟨2, ![512, 1024]⟩
abbrev S2048x8x64 : Shape := ⟨3, ![2048, 8, 64]⟩
abbrev S1024x1024 : Shape := ⟨2, ![1024, 1024]⟩
abbrev S8x64x1024 : Shape := ⟨3, ![8, 64, 1024]⟩
abbrev S8 : Shape := ⟨1, ![8]⟩
abbrev S_ : Shape := ⟨0, ![]⟩
abbrev S64x8x64 : Shape := ⟨3, ![64, 8, 64]⟩
abbrev S64x512 : Shape := ⟨2, ![64, 512]⟩
abbrev S64x1024 : Shape := ⟨2, ![64, 1024]⟩
abbrev S1x64x1024 : Shape := ⟨3, ![1, 64, 1024]⟩
abbrev S1 : Shape := ⟨1, ![1]⟩
abbrev S256x8x64 : Shape := ⟨3, ![256, 8, 64]⟩
abbrev S256x512 : Shape := ⟨2, ![256, 512]⟩
abbrev S256x1024 : Shape := ⟨2, ![256, 1024]⟩
abbrev S4x256x1024 : Shape := ⟨3, ![4, 256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x512x8x64, .bf16⟩
  | .hbm, ⟨1, _⟩ => ⟨S512x1024, .bf16⟩
  | .hbm, ⟨2, _⟩ => ⟨S2048x8x64, .bf16⟩
  | .hbm, ⟨3, _⟩ => ⟨S1024x1024, .bf16⟩
  | .hbm, ⟨4, _⟩ => ⟨S4x256x1024, .bf16⟩
  | .local _ .vmem, ⟨0, _⟩ => ⟨S2048x8x64, .bf16⟩
  | .local _ .vmem, ⟨1, _⟩ => ⟨S512x1024, .bf16⟩
  | .local _ .vmem, ⟨2, _⟩ => ⟨S1024x1024, .bf16⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S8x64x1024, .bf16⟩
  | _, _ => ⟨S4x512x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_6 : BitVec 32 := 4#32
  let v12 : BitVec 32 := Scalar.muli v9 c4_i32_6
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_13 : BitVec 32 := 1#32
  let v22 : BitVec 32 := Scalar.muli v10 c1_i32_13
  let v23 : BitVec 32 := Scalar.addi v21 v22
  v23.toNat
def k0_off1 (d0 : Dev nD) (c0_i32_19 : BitVec 32) (c0_i32_20 : BitVec 32) : Fin 3 → Nat :=
  let c2_i32_17 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.muli c2_i32_17 v8
  let v30 : BitVec 32 := Scalar.addi v28 c0_i32_19
  let c512_i32 : BitVec 32 := 512#32
  let v31 : BitVec 32 := Scalar.muli v30 c512_i32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c256_i32 : BitVec 32 := 256#32
  let v26 : BitVec 32 := Scalar.muli v9 c256_i32
  let v32 : BitVec 32 := Scalar.addi v31 v26
  let v33 : BitVec 32 := Scalar.addi v32 c0_i32_20
  let v34 : Index := Scalar.indexCast v33
  let c0_21 : Index := 0#32
  let c0_22 : Index := 0#32
  ![v34.toNat, 0, 0]
def k0_dev3 (d0 : Dev nD) : Nat :=
  let c0_i32_31 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_30 : BitVec 32 := 4#32
  let v43 : BitVec 32 := Scalar.muli v9 c4_i32_30
  let v44 : BitVec 32 := Scalar.addi c0_i32_31 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v45 : BitVec 32 := Scalar.muli v5 c2_i32_32
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v47 : BitVec 32 := Scalar.muli v8 c1_i32_33
  let v48 : BitVec 32 := Scalar.addi v46 v47
  v48.toNat
def k0_dev4 (d0 : Dev nD) : Nat :=
  let c0_i32_50 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_49 : BitVec 32 := 4#32
  let v70 : BitVec 32 := Scalar.muli v9 c4_i32_49
  let v71 : BitVec 32 := Scalar.addi c0_i32_50 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v72 : BitVec 32 := Scalar.muli v5 c2_i32_51
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v74 : BitVec 32 := Scalar.muli v8 c1_i32_52
  let v75 : BitVec 32 := Scalar.addi v73 v74
  v75.toNat
def k0_dev5 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v97 : BitVec 32 := Scalar.muli v9 c4_i32_68
  let v98 : BitVec 32 := Scalar.addi c0_i32_69 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v99 : BitVec 32 := Scalar.muli v5 c2_i32_70
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v101 : BitVec 32 := Scalar.muli v8 c1_i32_71
  let v102 : BitVec 32 := Scalar.addi v100 v101
  v102.toNat
def k0_dev6 (d0 : Dev nD) : Nat :=
  let c0_i32_87 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_86 : BitVec 32 := 4#32
  let v124 : BitVec 32 := Scalar.muli v9 c4_i32_86
  let v125 : BitVec 32 := Scalar.addi c0_i32_87 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_88 : BitVec 32 := 2#32
  let v126 : BitVec 32 := Scalar.muli v5 c2_i32_88
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v128 : BitVec 32 := Scalar.muli v8 c1_i32_89
  let v129 : BitVec 32 := Scalar.addi v127 v128
  v129.toNat
def k0_dev7 (d0 : Dev nD) : Nat :=
  let c0_i32_107 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_106 : BitVec 32 := 4#32
  let v151 : BitVec 32 := Scalar.muli v9 c4_i32_106
  let v152 : BitVec 32 := Scalar.addi c0_i32_107 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v153 : BitVec 32 := Scalar.muli v5 c2_i32_108
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v155 : BitVec 32 := Scalar.muli v8 c1_i32_109
  let v156 : BitVec 32 := Scalar.addi v154 v155
  v156.toNat
def k0_dev8 (d0 : Dev nD) : Nat :=
  let c0_i32_126 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_125 : BitVec 32 := 4#32
  let v178 : BitVec 32 := Scalar.muli v9 c4_i32_125
  let v179 : BitVec 32 := Scalar.addi c0_i32_126 v178
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v180 : BitVec 32 := Scalar.muli v5 c2_i32_127
  let v181 : BitVec 32 := Scalar.addi v179 v180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v182 : BitVec 32 := Scalar.muli v8 c1_i32_128
  let v183 : BitVec 32 := Scalar.addi v181 v182
  v183.toNat
def k0_dev9 (d0 : Dev nD) : Nat :=
  let c0_i32_145 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_144 : BitVec 32 := 4#32
  let v205 : BitVec 32 := Scalar.muli v9 c4_i32_144
  let v206 : BitVec 32 := Scalar.addi c0_i32_145 v205
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v207 : BitVec 32 := Scalar.muli v5 c2_i32_146
  let v208 : BitVec 32 := Scalar.addi v206 v207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v209 : BitVec 32 := Scalar.muli v8 c1_i32_147
  let v210 : BitVec 32 := Scalar.addi v208 v209
  v210.toNat
def k0_dev10 (d0 : Dev nD) : Nat :=
  let c0_i32_164 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_163 : BitVec 32 := 4#32
  let v232 : BitVec 32 := Scalar.muli v9 c4_i32_163
  let v233 : BitVec 32 := Scalar.addi c0_i32_164 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_165 : BitVec 32 := 2#32
  let v234 : BitVec 32 := Scalar.muli v5 c2_i32_165
  let v235 : BitVec 32 := Scalar.addi v233 v234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v236 : BitVec 32 := Scalar.muli v8 c1_i32_166
  let v237 : BitVec 32 := Scalar.addi v235 v236
  v237.toNat
def k0_off2 (d0 : Dev nD) (c0_i32_171 : BitVec 32) : Fin 3 → Nat :=
  let c2_i32_17 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.muli c2_i32_17 v8
  let v246 : BitVec 32 := Scalar.addi v28 c0_i32_171
  let c512_i32_172 : BitVec 32 := 512#32
  let v247 : BitVec 32 := Scalar.muli v246 c512_i32_172
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32_16 : BitVec 32 := 256#32
  let v27 : BitVec 32 := Scalar.muli v2 c256_i32_16
  let v248 : BitVec 32 := Scalar.addi v247 v27
  let v249 : Index := Scalar.indexCast v248
  let c0_173 : Index := 0#32
  let c0_174 : Index := 0#32
  ![v249.toNat, 0, 0]
def k0_off3 (d0 : Dev nD) (c0_i32_171 : BitVec 32) (c0_i32_192 : BitVec 32) : Fin 2 → Nat :=
  let c2_i32_17 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.muli c2_i32_17 v8
  let v246 : BitVec 32 := Scalar.addi v28 c0_i32_171
  let c256_i32_191 : BitVec 32 := 256#32
  let v272 : BitVec 32 := Scalar.muli v246 c256_i32_191
  let v273 : BitVec 32 := Scalar.addi v272 c0_i32_192
  let v274 : Index := Scalar.indexCast v273
  let c0_193 : Index := 0#32
  ![v274.toNat, 0]
def k0_dev11 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_201 : BitVec 32 := 4#32
  let v279 : BitVec 32 := Scalar.muli v2 c4_i32_201
  let v280 : BitVec 32 := Scalar.addi c0_i32_202 v279
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_203 : BitVec 32 := 2#32
  let v281 : BitVec 32 := Scalar.muli v5 c2_i32_203
  let v282 : BitVec 32 := Scalar.addi v280 v281
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_204 : BitVec 32 := 1#32
  let v283 : BitVec 32 := Scalar.muli v10 c1_i32_204
  let v284 : BitVec 32 := Scalar.addi v282 v283
  v284.toNat
def k0_dev12 (d0 : Dev nD) : Nat :=
  let c0_i32_235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_234 : BitVec 32 := 4#32
  let v318 : BitVec 32 := Scalar.muli v2 c4_i32_234
  let v319 : BitVec 32 := Scalar.addi c0_i32_235 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_236 : BitVec 32 := 2#32
  let v320 : BitVec 32 := Scalar.muli v5 c2_i32_236
  let v321 : BitVec 32 := Scalar.addi v319 v320
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_237 : BitVec 32 := 1#32
  let v322 : BitVec 32 := Scalar.muli v10 c1_i32_237
  let v323 : BitVec 32 := Scalar.addi v321 v322
  v323.toNat
def k0_dev13 (d0 : Dev nD) : Nat :=
  let c0_i32_268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_267 : BitVec 32 := 4#32
  let v357 : BitVec 32 := Scalar.muli v2 c4_i32_267
  let v358 : BitVec 32 := Scalar.addi c0_i32_268 v357
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_269 : BitVec 32 := 2#32
  let v359 : BitVec 32 := Scalar.muli v5 c2_i32_269
  let v360 : BitVec 32 := Scalar.addi v358 v359
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_270 : BitVec 32 := 1#32
  let v361 : BitVec 32 := Scalar.muli v10 c1_i32_270
  let v362 : BitVec 32 := Scalar.addi v360 v361
  v362.toNat
def k0_dev14 (d0 : Dev nD) : Nat :=
  let c0_i32_301 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_300 : BitVec 32 := 4#32
  let v396 : BitVec 32 := Scalar.muli v2 c4_i32_300
  let v397 : BitVec 32 := Scalar.addi c0_i32_301 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_302 : BitVec 32 := 2#32
  let v398 : BitVec 32 := Scalar.muli v5 c2_i32_302
  let v399 : BitVec 32 := Scalar.addi v397 v398
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_303 : BitVec 32 := 1#32
  let v400 : BitVec 32 := Scalar.muli v10 c1_i32_303
  let v401 : BitVec 32 := Scalar.addi v399 v400
  v401.toNat
def k0_dev15 (d0 : Dev nD) : Nat :=
  let c0_i32_339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_338 : BitVec 32 := 4#32
  let v443 : BitVec 32 := Scalar.muli v2 c4_i32_338
  let v444 : BitVec 32 := Scalar.addi c0_i32_339 v443
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_340 : BitVec 32 := 2#32
  let v445 : BitVec 32 := Scalar.muli v5 c2_i32_340
  let v446 : BitVec 32 := Scalar.addi v444 v445
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_341 : BitVec 32 := 1#32
  let v447 : BitVec 32 := Scalar.muli v10 c1_i32_341
  let v448 : BitVec 32 := Scalar.addi v446 v447
  v448.toNat
def k0_dev16 (d0 : Dev nD) : Nat :=
  let c0_i32_372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_371 : BitVec 32 := 4#32
  let v482 : BitVec 32 := Scalar.muli v2 c4_i32_371
  let v483 : BitVec 32 := Scalar.addi c0_i32_372 v482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_373 : BitVec 32 := 2#32
  let v484 : BitVec 32 := Scalar.muli v5 c2_i32_373
  let v485 : BitVec 32 := Scalar.addi v483 v484
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_374 : BitVec 32 := 1#32
  let v486 : BitVec 32 := Scalar.muli v10 c1_i32_374
  let v487 : BitVec 32 := Scalar.addi v485 v486
  v487.toNat
def k0_dev17 (d0 : Dev nD) : Nat :=
  let c0_i32_405 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_404 : BitVec 32 := 4#32
  let v521 : BitVec 32 := Scalar.muli v2 c4_i32_404
  let v522 : BitVec 32 := Scalar.addi c0_i32_405 v521
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_406 : BitVec 32 := 2#32
  let v523 : BitVec 32 := Scalar.muli v5 c2_i32_406
  let v524 : BitVec 32 := Scalar.addi v522 v523
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_407 : BitVec 32 := 1#32
  let v525 : BitVec 32 := Scalar.muli v10 c1_i32_407
  let v526 : BitVec 32 := Scalar.addi v524 v525
  v526.toNat
def k0_dev18 (d0 : Dev nD) : Nat :=
  let c0_i32_438 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_437 : BitVec 32 := 4#32
  let v560 : BitVec 32 := Scalar.muli v2 c4_i32_437
  let v561 : BitVec 32 := Scalar.addi c0_i32_438 v560
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_439 : BitVec 32 := 2#32
  let v562 : BitVec 32 := Scalar.muli v5 c2_i32_439
  let v563 : BitVec 32 := Scalar.addi v561 v562
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_440 : BitVec 32 := 1#32
  let v564 : BitVec 32 := Scalar.muli v10 c1_i32_440
  let v565 : BitVec 32 := Scalar.addi v563 v564
  v565.toNat
def k0_off4 (d0 : Dev nD) (c0_i32_445 : BitVec 32) (c0_i32_462 : BitVec 32) : Fin 2 → Nat :=
  let c2_i32_18 : BitVec 32 := 2#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let v29 : BitVec 32 := Scalar.muli c2_i32_18 v10
  let v574 : BitVec 32 := Scalar.addi v29 c0_i32_445
  let c256_i32_461 : BitVec 32 := 256#32
  let v589 : BitVec 32 := Scalar.muli v574 c256_i32_461
  let v590 : BitVec 32 := Scalar.addi v589 c0_i32_462
  let v591 : Index := Scalar.indexCast v590
  let c0_463 : Index := 0#32
  ![v591.toNat, 0]
abbrev stage0_0 : Fin 1 → Memref sig .tc .vmem S2048x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x512x16x64 : Shape := ⟨4, ![4, 512, 16, 64]⟩
abbrev S1024x1024 : Shape := ⟨2, ![1024, 1024]⟩
abbrev S4x512x1024 : Shape := ⟨3, ![4, 512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x512x16x64, .bf16⟩
  | .hbm, ⟨1, _⟩ => ⟨S1024x1024, .bf16⟩
  | .hbm, ⟨2, _⟩ => ⟨S4x512x16x64, .f32⟩
  | .hbm, ⟨3, _⟩ => ⟨S1024x1024, .f32⟩
  | .hbm, ⟨4, _⟩ => ⟨S4x512x1024, .f32⟩
  | .hbm, ⟨5, _⟩ => ⟨S4x512x1024, .f32⟩
  | .hbm, ⟨6, _⟩ => ⟨S4x512x1024, .bf16⟩
  | _, _ => ⟨S4x512x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Prog.lean ====
/- The kernel body in loop form: one step over a slot number for each of its loops. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal

open Idealize.ShloMosaic Idealize.ShloMosaic.TcCoe
open Idealize.SL.Sem
open Cert.KernelIdeal.Gen

variable {F : FTy → Type} [FloatOps F]

/-! ## Slots of the exchange buffers -/

theorem slot_inb (k : Fin 8) : ∀ a, (![k.val, 0, 0] : Fin 3 → Nat) a + S1x64x1024.size a ≤ S8x64x1024.size a := by
  revert k; decide

theorem slot_packed (k : Fin 8) :
    (Rect.unit (s := S8x64x1024) ![k.val, 0, 0] S1x64x1024.size (slot_inb k)).PackedRows (EltTy.packing .bf16) := by
  revert k; decide

theorem slot_words (k : Fin 8) :
    (Rect.unit (s := S8x64x1024) ![k.val, 0, 0] S1x64x1024.size (slot_inb k)).WholeWords (EltTy.packing .bf16) := by
  revert k; decide

theorem semSlot_inb (k : Fin 8) : ∀ a, (![k.val] : Fin 1 → Nat) a + S1.size a ≤ S8.size a := by
  revert k; decide

theorem quarter_slices (k : Fin 8) : S256x1024.Slices ![64 * (k.val % 4), 0] S64x1024 := by
  revert k; decide

/-- The batch a slot number counts (of the two a device's half holds). -/
abbrev hi (k : Fin 8) : Fin 2 := ⟨k.val / 4, by omega⟩
/-- The quarter of a batch's rows a slot number counts. -/
abbrev lo (k : Fin 8) : Fin 4 := ⟨k.val % 4, by omega⟩

/-- Slot `k` of an exchange buffer, as the rectangle a load or a store takes. -/
abbrev slotRect (k : Fin 8) : Rect S8x64x1024 :=
  Rect.unit (s := S8x64x1024) ![k.val, 0, 0] S1x64x1024.size (slot_inb k)

/-- Slot `k` of an exchange buffer, as the memref a copy takes. -/
abbrev slotRef (b : Memref sig .tc .vmem S8x64x1024 .bf16) (k : Fin 8) : Memref sig .tc .vmem S64x1024 .bf16 :=
  (b.slice (slotRect k) (fun _ => rfl)).squeeze S64x1024 squeezes_S1x64x1024_S64x1024

/-- Semaphore `k` of an array of eight. -/
abbrev semAt (s : DmaSems sig S8) (k : Fin 8) : DmaSem sig :=
  ((s.slice (Rect.unit (s := S8) ![k.val] S1.size (semSlot_inb k))).squeeze S_ squeezes_S1_S_).sem

/-- The barrier's semaphore. -/
abbrev barSem : Sem sig := (SemArray.scalar (sig.barrier 0 rfl) : Sems sig S_).sem

theorem slotRef_words (b : Memref sig .tc .vmem S8x64x1024 .bf16) (hb : b.IsWhole) (k : Fin 8) :
    (slotRef b k).view.WordExact :=
  (hb.wordExact_slice rfl _ (slot_words k)).reshape _ _

/-! ## The values -/

/-- A chunk of 64 rows of the operand times the weights, rounded: what a device sends to its x-partner. -/
def chunkVal (w : Vec F S512x1024 .bf16) (v : Vec F S64x8x64 .bf16) : FVec F S64x1024 .bf16 :=
  k0_pay4 (k0_pay1 w) v

/-- A batch's 256 own rows of the operand times the weights. -/
def mineVal (w : Vec F S512x1024 .bf16) (v : Vec F S256x8x64 .bf16) : FVec F S256x1024 .f32 :=
  k0_pay11 (k0_pay1 w) v

/-- A quarter of the own rows plus what the x-partner sent, rounded: 64 finished rows. -/
def finVal (k : Fin 8) (mine : FVec F S256x1024 .f32) (v : Vec F S1x64x1024 .bf16) : FVec F S64x1024 .bf16 :=
  truncf .bf16 (addf (extractStridedSlice S64x1024 ![64 * (k.val % 4), 0] mine (quarter_slices k))
    (extf .f32 (shapeCast S64x1024 v shapeCasts_S1x64x1024_S64x1024 : FVec F S64x1024 .bf16) bitsLt_bf16_f32)) bitsLt_bf16_f32

/-- A chunk with the leading axis of its slot. -/
def lead (v : FVec F S64x1024 .bf16) : FVec F S1x64x1024 .bf16 :=
  shapeCast S1x64x1024 v shapeCasts_S64x1024_S1x64x1024

/-- A slot's contents without the leading axis. -/
def unlead (v : Vec F S1x64x1024 .bf16) : FVec F S64x1024 .bf16 :=
  shapeCast S64x1024 v shapeCasts_S1x64x1024_S64x1024

/-! ## The steps -/

section steps

variable (o : Memref sig .tc .vmem S2048x8x64 .bf16) (w : Memref sig .tc .vmem S512x1024 .bf16)
  (out : Memref sig .tc .vmem S1024x1024 .bf16) (hout : out.IsWhole)
  (sx rx sz rz : Memref sig .tc .vmem S8x64x1024 .bf16)
  (hsx : sx.IsWhole) (hrx : rx.IsWhole) (hsz : sz.IsWhole) (hrz : rz.IsWhole)
  (q0 q1 q2 q3 : DmaSems sig S8)

/-- The x-partner and the z-partner of a device, as the body computes them. -/
abbrev pxDev (d : Dev nD) : Dev nD := ⟨k0_dev1 d, k0_dev1_lt d⟩
abbrev pzDev (d : Dev nD) : Dev nD := ⟨k0_dev2 d, k0_dev2_lt d⟩

/-- The rows of the operand that chunk `k` multiplies. -/
abbrev sendRect (d : Dev nD) (k : Fin 8) : Rect S2048x8x64 :=
  Rect.unit (s := S2048x8x64) (k0_off1 d (BitVec.ofNat 32 (hi k).val) (BitVec.ofNat 32 (64 * (lo k).val))) S64x8x64.size
    (k0_off1_inb d (hi k) (lo k))

/-- The own rows of the operand in batch `i`. -/
abbrev mineRect (d : Dev nD) (i : Fin 2) : Rect S2048x8x64 :=
  Rect.unit (s := S2048x8x64) (k0_off2 d (BitVec.ofNat 32 i.val)) S256x8x64.size (k0_off2_inb d i)

/-- The rows of the result a device finishes at slot `k`. -/
abbrev ownRect (d : Dev nD) (k : Fin 8) : Rect S1024x1024 :=
  Rect.unit (s := S1024x1024) (k0_off3 d (BitVec.ofNat 32 (hi k).val) (BitVec.ofNat 32 (64 * (lo k).val))) S64x1024.size
    (k0_off3_inb d (hi k) (lo k))

/-- The rows of the result a device receives at slot `k`. -/
abbrev gotRect (d : Dev nD) (k : Fin 8) : Rect S1024x1024 :=
  Rect.unit (s := S1024x1024) (k0_off4 d (BitVec.ofNat 32 (hi k).val) (BitVec.ofNat 32 (64 * (lo k).val))) S64x1024.size
    (k0_off4_inb d (hi k) (lo k))

/-- Steps `a`, …, `a + n - 1` in order. -/
def runs (step : Fin 8 → Prog (TpuEff nD τ sig (Elt F) Λ₀ .tc) PUnit) :
    (n a : ℕ) → a + n ≤ 8 → Prog (TpuEff nD τ sig (Elt F) Λ₀ .tc) PUnit
  | 0, _, _ => pure ⟨⟩
  | n + 1, a, h => step ⟨a, by omega⟩ >>= fun _ => runs step n (a + 1) (by omega)

/-- Multiply chunk `k` and send it to the x-partner. -/
def stepX (d : Dev nD) (wv : Vec F S512x1024 .bf16) (k : Fin 8) : Prog (TpuEff nD τ sig (Elt F) Λ₀ .tc) PUnit := do
  let v : Vec F S64x8x64 .bf16 ← Prog.lift (.load o (sendRect d k).toLoadRect (View.loadsAt_vmem h_S64x8x64))
  let _ : Vec F S1x64x1024 .bf16 ← Prog.lift (.load sx (slotRect k).toLoadRect (View.loadsAt_vmem h_S1x64x1024))
  Prog.lift (.store sx (slotRect k) (lead (chunkVal wv v)) Finset.univ
    (View.stores_vmem h_S1x64x1024 (hsx.storeExact_slice rfl _ (slot_packed k)) (fun _ => rfl)) (.inl rfl))
  Prog.lift (.enqueueDma (slotRef sx k) (.remote (Dev.tc (pxDev d)) (slotRef rx k) (.dma (semAt q0 k))) (.dma (semAt q1 k))
    (slotRef_words sx hsx k) (slotRef_words rx hrx k) ⟨⟨rfl, Or.inl rfl⟩, trivial⟩)

/-- Receive chunk `k` from the x-partner, finish its rows, and send them to the z-partner. -/
def stepZ (d : Dev nD) (mine : FVec F S256x1024 .f32) (k : Fin 8) : Prog (TpuEff nD τ sig (Elt F) Λ₀ .tc) PUnit := do
  Prog.lift (.waitDma2 (semAt q1 k) (slotRef sx k) (slotRef rx k) (slotRef_words sx hsx k) (slotRef_words rx hrx k))
  let v : Vec F S1x64x1024 .bf16 ← Prog.lift (.load rx (slotRect k).toLoadRect (View.loadsAt_vmem h_S1x64x1024))
  let _ : Vec F S64x1024 .bf16 ← Prog.lift (.load out (ownRect d k).toLoadRect (View.loadsAt_vmem h_S64x1024))
  Prog.lift (.store out (ownRect d k) (finVal k mine v) Finset.univ
    (View.stores_vmem h_S64x1024 (hout.storeExact_slice rfl _ (k0_off3_packedbf16 d (hi k) (lo k))) (fun _ => rfl)) (.inl rfl))
  let _ : Vec F S1x64x1024 .bf16 ← Prog.lift (.load sz (slotRect k).toLoadRect (View.loadsAt_vmem h_S1x64x1024))
  Prog.lift (.store sz (slotRect k) (lead (finVal k mine v)) Finset.univ
    (View.stores_vmem h_S1x64x1024 (hsz.storeExact_slice rfl _ (slot_packed k)) (fun _ => rfl)) (.inl rfl))
  Prog.lift (.enqueueDma (slotRef sz k) (.remote (Dev.tc (pzDev d)) (slotRef rz k) (.dma (semAt q2 k))) (.dma (semAt q3 k))
    (slotRef_words sz hsz k) (slotRef_words rz hrz k) ⟨⟨rfl, Or.inl rfl⟩, trivial⟩)

/-- Receive finished rows `k` from the z-partner and write them to the result. -/
def stepR (d : Dev nD) (k : Fin 8) : Prog (TpuEff nD τ sig (Elt F) Λ₀ .tc) PUnit := do
  Prog.lift (.waitDma2 (semAt q3 k) (slotRef sz k) (slotRef rz k) (slotRef_words sz hsz k) (slotRef_words rz hrz k))
  let v : Vec F S1x64x1024 .bf16 ← Prog.lift (.load rz (slotRect k).toLoadRect (View.loadsAt_vmem h_S1x64x1024))
  let _ : Vec F S64x1024 .bf16 ← Prog.lift (.load out (gotRect d k).toLoadRect (View.loadsAt_vmem h_S64x1024))
  Prog.lift (.store out (gotRect d k) (unlead v) Finset.univ
    (View.stores_vmem h_S64x1024 (hout.storeExact_slice rfl _ (k0_off4_packedbf16 d (hi k) (lo k))) (fun _ => rfl)) (.inl rfl))

/-- Wait until the send from slot `k` of `src` to `dst` has left. -/
def stepW (q : DmaSems sig S8) (src dst : Memref sig .tc .vmem S8x64x1024 .bf16) (hsrc : src.IsWhole) (hdst : dst.IsWhole)
    (k : Fin 8) : Prog (TpuEff nD τ sig (Elt F) Λ₀ .tc) PUnit :=
  Prog.lift (.waitDma2 (semAt q k) (slotRef dst k) (slotRef src k) (slotRef_words dst hdst k) (slotRef_words src hsrc k))

/-- The whole body. -/
def bodyProg : Prog (TpuEff nD τ sig (Elt F) Λ₀ .tc) PUnit := do
  let d : Dev nD ← Prog.lift .deviceId
  semSignalWord (pxDev d) barSem 1#32
  semSignalWord (pzDev d) barSem 1#32
  semWaitWord barSem 2#32
  let wv : Vec F S512x1024 .bf16 ← Prog.lift (.load w (Rect.unit (s := S512x1024) ![0, 0] S512x1024.size inb_S512x1024_S512x1024_0_0).toLoadRect (View.loadsAt_vmem h_S512x1024))
  runs (stepX o sx rx hsx hrx q0 q1 d wv) 8 0 (by omega)
  let v0 : Vec F S256x8x64 .bf16 ← Prog.lift (.load o (mineRect d 0).toLoadRect (View.loadsAt_vmem h_S256x8x64))
  runs (stepZ out hout sx rx sz rz hsx hrx hsz hrz q1 q2 q3 d (mineVal wv v0)) 4 0 (by omega)
  let v1 : Vec F S256x8x64 .bf16 ← Prog.lift (.load o (mineRect d 1).toLoadRect (View.loadsAt_vmem h_S256x8x64))
  runs (stepZ out hout sx rx sz rz hsx hrx hsz hrz q1 q2 q3 d (mineVal wv v1)) 4 4 (by omega)
  runs (stepR out hout sz rz hsz hrz q3 d) 8 0 (by omega)
  runs (stepW q0 sx rx hsx hrx) 8 0 (by omega)
  runs (stepW q2 sz rz hsz hrz) 8 0 (by omega)

end steps

end Cert.KernelIdeal

end
-- ==== Proof.Proto.lean ====
/- The exchange protocol: partners, cells, what each slot carries, the schedule of the semaphores, and their levels. -/
module

public import proofs.«01_k».proof.Proof.Prog
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Lib.Pointwise.Index
public import Idealize.ShloMosaic.Lib.Pipeline.ValueKit.Geometry

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## Partners -/

/-- The x-partner of a device: the other value of the first mesh coordinate. -/
def px (c : Dev nD) : Dev nD := ⟨(c.val + 4) % 8, Nat.mod_lt _ (by decide)⟩
/-- The z-partner of a device: the other value of the last mesh coordinate. -/
def pz (c : Dev nD) : Dev nD := ⟨(c.val + 1 - 2 * (c.val % 2)) % 8, Nat.mod_lt _ (by decide)⟩

/-- Partners are mutual, and three different devices. -/
theorem px_px (c : Dev nD) : px (px c) = c := by revert c; decide
theorem pz_pz (c : Dev nD) : pz (pz c) = c := by revert c; decide
theorem px_ne (c : Dev nD) : px c ≠ c := by revert c; decide
theorem pz_ne (c : Dev nD) : pz c ≠ c := by revert c; decide
theorem px_ne_pz (c : Dev nD) : px c ≠ pz c := by revert c; decide

/-- The body computes these partners. -/
theorem pxDev_eq (c : Dev nD) : pxDev c = px c := by
  apply Fin.ext
  show k0_dev1 c = _
  rw [k0_dev1_eq]
  revert c; decide

theorem pzDev_eq (c : Dev nD) : pzDev c = pz c := by
  apply Fin.ext
  show k0_dev2 c = _
  rw [k0_dev2_eq]
  revert c; decide

def swapX : Dev nD ≃ Dev nD := ⟨px, px, px_px, px_px⟩
def swapZ : Dev nD ≃ Dev nD := ⟨pz, pz, pz_pz, pz_pz⟩

/-! ## Buffers, semaphores, cells -/

abbrev OM : Memref sig .tc .vmem S2048x8x64 .bf16 := Memref.whole cc0_stg0_0
abbrev WM : Memref sig .tc .vmem S512x1024 .bf16 := Memref.whole cc0_stg1_0
abbrev TM : Memref sig .tc .vmem S1024x1024 .bf16 := Memref.whole cc0_stg2_0
abbrev SX : Memref sig .tc .vmem S8x64x1024 .bf16 := Memref.whole cc0_scratch0
abbrev RX : Memref sig .tc .vmem S8x64x1024 .bf16 := Memref.whole cc0_scratch1
abbrev SZ : Memref sig .tc .vmem S8x64x1024 .bf16 := Memref.whole cc0_scratch2
abbrev RZ : Memref sig .tc .vmem S8x64x1024 .bf16 := Memref.whole cc0_scratch3

/-- The four arrays of semaphores: x-sends, x-receives, z-sends, z-receives. -/
abbrev qs : Fin 4 → DmaSems sig S8 := fun | 0 => cc0_scratch4 | 1 => cc0_scratch5 | 2 => cc0_scratch6 | 3 => cc0_scratch7
abbrev dq (a : Fin 4) (k : Fin 8) : DmaSem sig := semAt (qs a) k

abbrev barCell (c : Dev nD) : GSem nD τ sig := ((c : Thread nD τ), .reg barSem)
abbrev dCell (c : Dev nD) (a : Fin 4) (k : Fin 8) : GSem nD τ sig := ((c : Thread nD τ), .dma (dq a k))

theorem dq_val : ∀ (a : Fin 4) (k : Fin 8), (dq a k).val = 3 + 8 * a.val + k.val := by decide

/-- Which array a semaphore belongs to, and its place there. -/
def kindOf (q : DmaSem sig) : Fin 4 := ⟨(q.val - 3) / 8 % 4, Nat.mod_lt _ (by decide)⟩
def placeOf (q : DmaSem sig) : Fin 8 := ⟨(q.val - 3) % 8, Nat.mod_lt _ (by decide)⟩

theorem kindOf_dq (a : Fin 4) (k : Fin 8) : kindOf (dq a k) = a := by
  apply Fin.ext; show ((dq a k).val - 3) / 8 % 4 = _; rw [dq_val]; omega
theorem placeOf_dq (a : Fin 4) (k : Fin 8) : placeOf (dq a k) = k := by
  apply Fin.ext; show ((dq a k).val - 3) % 8 = _; rw [dq_val]; omega
theorem dq_inj {a b : Fin 4} {k j : Fin 8} (h : dq a k = dq b j) : a = b ∧ k = j := by
  refine ⟨?_, ?_⟩
  · rw [← kindOf_dq a k, h, kindOf_dq]
  · rw [← placeOf_dq a k, h, placeOf_dq]

theorem dma_ne_bar (q : DmaSem sig) : (SemLoc.dma q : SemLoc sig) ≠ .reg barSem := fun h => by cases h

/-- The bytes of one slot, as a wait counts them. -/
abbrev N : ℕ := (slotRef RX 0).view.dmaCredit
theorem N_pos : 0 < N := View.dmaCredit_pos _ (by decide)

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Contents -/

section Contents

variable (X : Dev nD → Vec F S2048x8x64 .bf16) (Wt : Dev nD → Vec F S512x1024 .bf16)

/-- The weights of a device as the body loads them. -/
def wv (c : Dev nD) : Vec F S512x1024 .bf16 := fun j =>
  Wt c ((Rect.unit (s := S512x1024) ![0, 0] S512x1024.size inb_S512x1024_S512x1024_0_0).emb j)

/-- Chunk `k`: the rows device `c` computes for its x-partner. -/
def chunk (c : Dev nD) (k : Fin 8) : FVec F S64x1024 .bf16 :=
  chunkVal (wv Wt c) (fun j => X c ((sendRect c k).emb j))

/-- The own rows of batch `i` of device `c`. -/
def mine (c : Dev nD) (i : Fin 2) : FVec F S256x1024 .f32 :=
  mineVal (wv Wt c) (fun j => X c ((mineRect c i).emb j))

/-- The finished rows `k` of device `c`: its own rows plus its x-partner's chunk. -/
def fin (c : Dev nD) (k : Fin 8) : FVec F S64x1024 .bf16 :=
  finVal k (mine X Wt c (hi k)) (lead (chunk X Wt (px c) k))

end Contents

variable (X : Dev nD → Vec F S2048x8x64 .bf16) (Wt : Dev nD → Vec F S512x1024 .bf16)

/-! ## The schedule -/

/-- Slot `k` of an exchange buffer of device `c`, holding `v`. -/
def slotOwn (b : Memref sig .tc .vmem S8x64x1024 .bf16) (c : Dev nD) (k : Fin 8) (v : FVec F S64x1024 .bf16) : sProp 𝕄 :=
  owns (c : Thread nD τ) (slotRef b k) fullShare v

/-- The same slot at contents not chosen. -/
def slotAny (b : Memref sig .tc .vmem S8x64x1024 .bf16) (c : Dev nD) (k : Fin 8) : sProp 𝕄 :=
  iprop(∃ v : FVec F S64x1024 .bf16, slotOwn b c k v)

instance slotOwn_storable (b : Memref sig .tc .vmem S8x64x1024 .bf16) (c : Dev nD) (k : Fin 8) (v : FVec F S64x1024 .bf16) :
    BI.Storable (upEmb : UEmb _ 𝕄) (slotOwn b c k v) := by unfold slotOwn; infer_instance

instance slotAny_storable (b : Memref sig .tc .vmem S8x64x1024 .bf16) (c : Dev nD) (k : Fin 8) :
    BI.Storable (upEmb : UEmb _ 𝕄) (slotAny (F := F) b c k) := by unfold slotAny; infer_instance

/-- What a partner `c'` hands over at the barrier: its landing slots, and that their receive cells stand at round 0. -/
def landing (b : Memref sig .tc .vmem S8x64x1024 .bf16) (c' : Dev nD) (a : Fin 4) : sProp 𝕄 :=
  bigSep Finset.univ fun k : Fin 8 => iprop(slotAny (F := F) b c' k ∗ reached ER (dCell c' a k) 0)

/-- Paid to the barrier cell of device `c`: `true` by its x-partner, `false` by its z-partner. -/
def barPay (c : Dev nD) : Bool → sProp 𝕄
  | true => landing (F := F) RX (px c) 1
  | false => landing (F := F) RZ (pz c) 3

/-- Paid to a transfer's cell of device `c`. -/
def dmaPay (c : Dev nD) (k : Fin 8) : Fin 4 → sProp 𝕄
  | 0 => slotOwn SX c k (chunk X Wt c k)
  | 1 => slotOwn RX c k (chunk X Wt (px c) k)
  | 2 => slotOwn SZ c k (fin X Wt c k)
  | 3 => slotOwn RZ c k (fin X Wt (pz c) k)

/-- One round: two duties of one unit on the barrier cell, one duty of a slot's bytes on every transfer's cell. -/
def exRd : Rounds.Schedule (GSem nD τ sig) Bool 𝕄 where
  duties g r := if r = 0 ∧ g.1.2 = .tc then (if g.2 = .reg barSem then Finset.univ else {false}) else ∅
  unitless _ := False
  amount g _ _ := if g.2 = .reg barSem then 1 else N
  payload g _ d := match g.2 with
    | .reg _ => barPay (F := F) g.1.1 d
    | .dma q => dmaPay X Wt g.1.1 (placeOf q) (kindOf q)
  amount_pos g _ _ _ := by
    by_cases h : g.2 = .reg barSem
    · rw [if_pos h]; exact Nat.one_pos
    · rw [if_neg h]; exact N_pos

instance landing_storable (b : Memref sig .tc .vmem S8x64x1024 .bf16) (c' : Dev nD) (a : Fin 4) :
    BI.Storable (upEmb : UEmb _ 𝕄) (landing (F := F) b c' a) := by unfold landing; infer_instance

instance barPay_storable (c : Dev nD) (d : Bool) : BI.Storable (upEmb : UEmb _ 𝕄) (barPay (F := F) c d) := by
  cases d <;> (unfold barPay; infer_instance)

instance dmaPay_storable (c : Dev nD) (k : Fin 8) (a : Fin 4) : BI.Storable (upEmb : UEmb _ 𝕄) (dmaPay X Wt c k a) := by
  fin_cases a <;> (dsimp only [dmaPay]; infer_instance)

instance exRd_payload_storable (g : GSem nD τ sig) (r : ℕ) (d : Bool) :
    BI.Storable (upEmb : UEmb _ 𝕄) ((exRd X Wt).payload g r d) := by
  show BI.Storable upEmb (match g.2 with
    | .reg _ => barPay (F := F) g.1.1 d
    | .dma q => dmaPay X Wt g.1.1 (placeOf q) (kindOf q))
  split <;> infer_instance

section Sched

variable (c : Dev nD) (a : Fin 4) (k : Fin 8)

theorem duties_bar : (exRd X Wt).duties (barCell c) 0 = Finset.univ := by
  dsimp only [exRd]; rw [if_pos ⟨rfl, rfl⟩, if_pos rfl]
theorem duties_dma : (exRd X Wt).duties (dCell c a k) 0 = {false} := by
  dsimp only [exRd]; rw [if_pos ⟨rfl, rfl⟩, if_neg (dma_ne_bar _)]
theorem duties_later (g : GSem nD τ sig) : ∀ r, 1 ≤ r → (exRd X Wt).duties g r = ∅ :=
  fun r hr => by dsimp only [exRd]; rw [if_neg (fun h => by omega)]
theorem amount_bar (d : Bool) : (exRd X Wt).amount (barCell c) 0 d = 1 := by dsimp only [exRd]; exact if_pos rfl
theorem amount_dma (d : Bool) : (exRd X Wt).amount (dCell c a k) 0 d = N := by dsimp only [exRd]; exact if_neg (dma_ne_bar _)
theorem expect_bar : (exRd X Wt).expect (barCell c) 0 = 2 := by
  unfold Schedule.expect Schedule.amountOf
  rw [duties_bar, Finset.sum_congr rfl fun d _ => amount_bar X Wt c d, Finset.sum_const, Finset.card_univ, Fintype.card_bool, smul_eq_mul]
theorem expect_dma : (exRd X Wt).expect (dCell c a k) 0 = N := by
  unfold Schedule.expect Schedule.amountOf; rw [duties_dma, Finset.sum_singleton, amount_dma]
theorem payload_bar (d : Bool) : (exRd X Wt).payload (barCell c) 0 d = barPay (F := F) c d := rfl
theorem payload_dma (d : Bool) : (exRd X Wt).payload (dCell c a k) 0 d = dmaPay X Wt c k a := by
  show dmaPay X Wt c (placeOf (dq a k)) (kindOf (dq a k)) = _
  rw [placeOf_dq, kindOf_dq]

theorem rest_bar : bigSep ((exRd X Wt).duties (barCell c) 0 \ ∅) (fun d => (exRd X Wt).payload (barCell c) 0 d)
    = iprop(landing (F := F) RZ (pz c) 3 ∗ landing (F := F) RX (px c) 1) := by
  rw [Finset.sdiff_empty, duties_bar, bigSep_univ_eq_bigSepL [false, true] (by decide) (by decide), bigSepL_cons_cons, bigSepL_singleton,
    payload_bar, payload_bar]
  rfl
theorem rest_dma : bigSep ((exRd X Wt).duties (dCell c a k) 0 \ ∅) (fun d => (exRd X Wt).payload (dCell c a k) 0 d) = dmaPay X Wt c k a := by
  rw [Finset.sdiff_empty, duties_dma, bigSep_singleton, payload_dma]

end Sched

/-! ## What is owed, and the levels -/

/-- What device `c` still owes its x-partner's (`a = 1`) or z-partner's (`a = 3`) receive cells from slot `n` on. -/
def restOwed (c' : Dev nD) (a : Fin 4) (n : ℕ) : CellTallies nD τ sig Unit :=
  ∑ j ∈ Finset.univ.filter (fun j : Fin 8 => n ≤ j.val), tallyAt (dCell c' a j) () N

theorem restOwed_step (c' : Dev nD) (a : Fin 4) (k : Fin 8) :
    restOwed c' a k.val = restOwed c' a (k.val + 1) + tallyAt (dCell c' a k) () N := by
  unfold restOwed
  have e : Finset.univ.filter (fun j : Fin 8 => k.val ≤ j.val) = insert k (Finset.univ.filter (fun j : Fin 8 => k.val + 1 ≤ j.val)) := by
    revert k; decide
  rw [e, Finset.sum_insert (by simp), add_comm]

theorem restOwed_end (c' : Dev nD) (a : Fin 4) : restOwed c' a 8 = 0 := by
  unfold restOwed
  rw [show Finset.univ.filter (fun j : Fin 8 => 8 ≤ j.val) = ∅ by decide, Finset.sum_empty]

/-- The transfers device `c` owes with `n` x-sends and `n'` z-sends made. -/
def owed (c : Dev nD) (n n' : ℕ) : CellTallies nD τ sig Unit := restOwed (px c) 1 n + restOwed (pz c) 3 n'

/-- What device `c` owes at launch. -/
def O₀ (c : Dev nD) : CellTallies nD τ sig Unit :=
  owed c 0 0 + tallyAt (barCell (pz c)) () 1 + tallyAt (barCell (px c)) () 1

def L (g : GSem nD τ sig) : Finset Unit := if g.1.2 = .tc then {()} else ∅
/-- The order of waiting: sends and staging first, then the barrier, then the x-receives, then the z-receives. -/
def lv (g : GSem nD τ sig) (_ : Unit) : ℕ := match g.2 with
  | .reg _ => 1
  | .dma q => if q.val < 11 then 0 else if q.val < 19 then 2 else if q.val < 27 then 0 else 3

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_dma (c : Dev nD) (a : Fin 4) (k : Fin 8) (u : Unit) : lv (dCell c a k) u = (match a with | 0 => 0 | 1 => 2 | 2 => 0 | 3 => 3) := by
  show (if (dq a k).val < 11 then 0 else if (dq a k).val < 19 then 2 else if (dq a k).val < 27 then 0 else 3) = _
  revert a k; decide

theorem restOwed_pos {c' : Dev nD} {a : Fin 4} {n : ℕ} {g : GSem nD τ sig} {u : Unit} (h : 0 < restOwed c' a n g u) :
    ∃ j, g = dCell c' a j := by
  unfold restOwed at h
  rw [Finset.sum_apply, Finsupp.finset_sum_apply] at h
  obtain ⟨j, -, hj⟩ := Finset.exists_ne_zero_of_sum_ne_zero (Nat.pos_iff_ne_zero.mp h)
  rw [tallyAt_apply] at hj
  split at hj
  · next hg => exact ⟨j, hg.1⟩
  · exact absurd rfl hj

theorem owed_pos {c : Dev nD} {n n' : ℕ} {g : GSem nD τ sig} {u : Unit} (h : 0 < owed c n n' g u) :
    0 < restOwed (px c) 1 n g u ∨ 0 < restOwed (pz c) 3 n' g u := by
  unfold owed at h
  rw [Pi.add_apply, Finsupp.add_apply] at h
  exact Nat.add_pos_iff_pos_or_pos.mp h

theorem tallyAt_pos {g₀ g : GSem nD τ sig} {n : ℕ} {u : Unit} (h : 0 < (tallyAt g₀ () n : CellTallies nD τ sig Unit) g u) : g = g₀ := by
  rw [tallyAt_apply] at h
  split at h
  · next hg => exact hg.1
  · exact absurd h (Nat.lt_irrefl 0)

/-- What a device owes at first is owed to its partners' cells. -/
theorem O₀_pos {c : Dev nD} {g : GSem nD τ sig} {u : Unit} (h : 0 < O₀ c g u) :
    0 < owed c 0 0 g u ∨ g = barCell (pz c) ∨ g = barCell (px c) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · exact .inl h
    · exact .inr (.inl (tallyAt_pos h))
  · exact .inr (.inr (tallyAt_pos h))

/-- The barrier may be waited for while transfers are owed. -/
theorem mayWait_bar (c : Dev nD) (n n' : ℕ) :
    (levAts L lv : sProp 𝕄) ⊢ MayWait (c : Thread nD τ) (.reg barSem) () (owed c n n') :=
  MayOwe.of_cut (L := L) (lev := lv) 1 (fun p hp => by rw [Finset.mem_singleton.mp hp, L_tc]; exact Finset.mem_singleton_self _)
    (fun g u hg => by
      rcases owed_pos hg with h | h <;> (obtain ⟨j, rfl⟩ := restOwed_pos h; rw [L_tc]; exact Finset.mem_singleton_self _))
    (fun p hp => by rw [Finset.mem_singleton.mp hp, lv_bar])
    (fun g u hg => by
      rcases owed_pos hg with h | h <;> (obtain ⟨j, rfl⟩ := restOwed_pos h; rw [lv_dma]; decide))

/-- An x-receive may be waited for once every x-send is made. -/
theorem mayWait_rx (c : Dev nD) (k : Fin 8) (n' : ℕ) :
    (levAts L lv : sProp 𝕄) ⊢ MayWait (c : Thread nD τ) (.dma (dq 1 k)) () (owed c 8 n') :=
  MayOwe.of_cut (L := L) (lev := lv) 2 (fun p hp => by rw [Finset.mem_singleton.mp hp, L_tc]; exact Finset.mem_singleton_self _)
    (fun g u hg => by
      rcases owed_pos hg with h | h <;> (obtain ⟨j, rfl⟩ := restOwed_pos h; rw [L_tc]; exact Finset.mem_singleton_self _))
    (fun p hp => by rw [Finset.mem_singleton.mp hp]; exact (lv_dma c 1 k ()).le)
    (fun g u hg => by
      rcases owed_pos hg with h | h
      · rw [restOwed_end] at h; exact absurd h (Nat.lt_irrefl 0)
      · obtain ⟨j, rfl⟩ := restOwed_pos h; rw [lv_dma]; decide)

theorem owed_end (c : Dev nD) : owed c 8 8 = 0 := by
  unfold owed; rw [restOwed_end, restOwed_end, add_zero]

end Cert.KernelIdeal

end
-- ==== Proof.Slots.lean ====
/- Loads and stores of one slot and of 64 rows of the result; the rule for a run of steps. -/
module

public import proofs.«01_k».proof.Proof.Proto

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## A slot -/

theorem unlead_lead (v : FVec F S64x1024 .bf16) : unlead (lead v) = v := by
  funext y
  unfold unlead lead shapeCast
  exact congrArg v ((Shape.reshapeEquiv shapeCasts_S1x64x1024_S64x1024).symm_apply_apply y)

theorem lead_unlead (v : Vec F S1x64x1024 .bf16) : lead (unlead v) = v := by
  funext y
  unfold unlead lead shapeCast
  exact congrArg v ((Shape.reshapeEquiv shapeCasts_S1x64x1024_S64x1024).apply_symm_apply y)

section slot

variable (b : Memref sig .tc .vmem S8x64x1024 .bf16) (c : Dev nD) (k : Fin 8)

/-- A slot's elements, through the rectangle loads and stores take, at contents `f` that read `v`. -/
theorem slotOwn_elim (v : FVec F S64x1024 .bf16) :
    (slotOwn b c k v : sProp 𝕄) ⊢ iprop(∃ f : Buf (Elt F) ((b.access (slotRect k)).loc (c : Thread nD τ)),
      ⌜(b.access (slotRect k)).read (Elt F) f = lead v⌝
        ∗ ((b.access (slotRect k)).loc (c : Thread nD τ) ↦[(b.access (slotRect k)).set]{fullShare} f)) := by
  unfold slotOwn owns
  iintro ⟨%f, %hf, H⟩
  iexists f
  isplitr
  · ipureintro
    rw [← hf]
    exact (lead_unlead _).symm
  rw [show (slotRef b k).view.set = (b.access (slotRect k)).set from View.set_reshape _ _]
  iexact H

theorem slotOwn_intro (f : Buf (Elt F) ((b.access (slotRect k)).loc (c : Thread nD τ))) (v : FVec F S64x1024 .bf16)
    (hf : (b.access (slotRect k)).read (Elt F) f = lead v) :
    ((b.access (slotRect k)).loc (c : Thread nD τ) ↦[(b.access (slotRect k)).set]{fullShare} f) ⊢ (slotOwn b c k v : sProp 𝕄) := by
  unfold slotOwn owns
  iintro H
  iexists f
  isplitr
  · ipureintro
    exact (congrArg unlead hf).trans (unlead_lead v)
  rw [show (slotRef b k).view.set = (b.access (slotRect k)).set from View.set_reshape _ _]
  iexact H

/-- A load of a slot reads what it holds. -/
theorem wp_slot_load {hl : b.view.LoadsAt (slotRect k).toLoadRect} {α : Type} {K : Vec F S1x64x1024 .bf16 → Prog (TpuEff nD τ sig (Elt F) Λ₀ .tc) α}
    {Q : α → sProp 𝕄} (v : FVec F S64x1024 .bf16) :
    (slotOwn b c k v : sProp 𝕄) ⊢ iprop((slotOwn b c k v -∗ wp frame (wpE (defs₀ (F := F)) 𝒱₀ (c : Thread nD τ) none) Set.univ (K (lead v)) Q)
      -∗ wp frame (wpE (defs₀ (F := F)) 𝒱₀ (c : Thread nD τ) none) Set.univ (.op (.load b (slotRect k).toLoadRect hl) K) Q) := by
  iintro H Hk
  ihave H' := (slotOwn_elim b c k v) $$ H
  icases H' with ⟨%f, %hf, H⟩
  iapply (wp_load_rect 𝒱₀ (c : Thread nD τ) none Set.univ (m := b) (r := slotRect k) (Finset.Subset.refl _)) $$ H
  iintro H
  rw [hf]
  iapply Hk
  iapply (slotOwn_intro b c k f v hf) $$ H

/-- A store of a whole slot. -/
theorem wp_slot_store {u : FVec F S64x1024 .bf16} {hx : (b.access (slotRect k)).Stores Finset.univ}
    {hm : (Finset.univ : Finset (slotRect k).shape.Idx) = Finset.univ ∨ ∀ a, (slotRect k).stride a = 1} {α : Type} {K : PUnit → Prog (TpuEff nD τ sig (Elt F) Λ₀ .tc) α}
    {Q : α → sProp 𝕄} (v : FVec F S64x1024 .bf16) :
    (slotOwn b c k v : sProp 𝕄) ⊢ iprop((slotOwn b c k u -∗ wp frame (wpE (defs₀ (F := F)) 𝒱₀ (c : Thread nD τ) none) Set.univ (K ⟨⟩) Q)
      -∗ wp frame (wpE (defs₀ (F := F)) 𝒱₀ (c : Thread nD τ) none) Set.univ (.op (.store b (slotRect k) (lead u) Finset.univ hx hm) K) Q) := by
  iintro H Hk
  ihave H' := (slotOwn_elim b c k v) $$ H
  icases H' with ⟨%f, %hf, H⟩
  iapply (wp_store 𝒱₀ (c : Thread nD τ) none Set.univ (m := b) (r := slotRect k) (w := lead u) (Mk := Finset.univ)
    (S := (b.access (slotRect k)).set) (f := f) (Finset.Subset.refl _)) $$ H
  iintro H
  iapply Hk
  iapply (slotOwn_intro b c k _ u (View.read_write_univ _ _)) $$ H

end slot

/-! ## Rows of the result -/

/-- The result's staging buffer of device `c` at contents `f`. -/
abbrev outPts (c : Dev nD) (f : Vec F S1024x1024 .bf16) : sProp 𝕄 := (TM.view.loc (c : Thread nD τ)) ↦{fullShare} (f : Buf (Elt F) (TM.view.loc (c : Thread nD τ)))

section whole

variable {Val : EltTy → Type} (b : Ref sig .tc) (r : Rect b.ty.shape) (f : b.ty.Contents Val) (u : r.shape.Idx → Val b.ty.elt)

/-- A write through a rectangle of a whole buffer, read back inside the rectangle and outside. -/
theorem whole_write_emb (x : r.shape.Idx) : ((View.whole b).slice r).write Val f u Finset.univ (r.emb x) = u x := by
  have h := View.read_slice_write_emb (v := View.whole b) r f u (Finset.mem_univ x)
  rwa [View.read_whole] at h

theorem whole_write_of_ne (y : b.ty.Idx) (h : ∀ x, y ≠ r.emb x) : ((View.whole b).slice r).write Val f u Finset.univ y = f y := by
  have h' := View.read_slice_write_of_not_mem (v := View.whole b) r f u Finset.univ (y := y) (by
    intro hm
    obtain ⟨x, -, hx⟩ := Finset.mem_map.mp hm
    exact h x hx.symm)
  rwa [View.read_whole, View.read_whole] at h'

end whole

/-- The contents after 64 rows at offset `off` are replaced by `u`. -/
def putRows (off : Fin 2 → ℕ) (inb : ∀ a, off a + S64x1024.size a ≤ S1024x1024.size a) (f : Vec F S1024x1024 .bf16)
    (u : FVec F S64x1024 .bf16) : Vec F S1024x1024 .bf16 :=
  (TM.access (Rect.unit (s := S1024x1024) off S64x1024.size inb)).write (Elt F) f u Finset.univ

section rows

variable (c : Dev nD) (off : Fin 2 → ℕ) (inb : ∀ a, off a + S64x1024.size a ≤ S1024x1024.size a)

theorem putRows_emb (f : Vec F S1024x1024 .bf16) (u : FVec F S64x1024 .bf16) (j : S64x1024.Idx) :
    putRows off inb f u ((Rect.unit (s := S1024x1024) off S64x1024.size inb).emb j) = u j :=
  whole_write_emb cc0_stg2_0 (Rect.unit (s := S1024x1024) off S64x1024.size inb) f u j

theorem putRows_of_ne (f : Vec F S1024x1024 .bf16) (u : FVec F S64x1024 .bf16) (i : S1024x1024.Idx)
    (h : ∀ j, i ≠ (Rect.unit (s := S1024x1024) off S64x1024.size inb).emb j) : putRows off inb f u i = f i :=
  whole_write_of_ne cc0_stg2_0 (Rect.unit (s := S1024x1024) off S64x1024.size inb) f u i h

/-- A load of rows of the result. -/
theorem wp_out_load {hl : TM.view.LoadsAt (Rect.unit (s := S1024x1024) off S64x1024.size inb).toLoadRect} {α : Type}
    {K : Vec F S64x1024 .bf16 → Prog (TpuEff nD τ sig (Elt F) Λ₀ .tc) α} {Q : α → sProp 𝕄} (f : Vec F S1024x1024 .bf16) :
    (outPts c f : sProp 𝕄) ⊢ iprop((outPts c f -∗ ∀ v, wp frame (wpE (defs₀ (F := F)) 𝒱₀ (c : Thread nD τ) none) Set.univ (K v) Q)
      -∗ wp frame (wpE (defs₀ (F := F)) 𝒱₀ (c : Thread nD τ) none) Set.univ
        (.op (.load TM (Rect.unit (s := S1024x1024) off S64x1024.size inb).toLoadRect hl) K) Q) := by
  iintro H Hk
  iapply (wp_load_rect 𝒱₀ (c : Thread nD τ) none Set.univ (m := TM) (r := Rect.unit (s := S1024x1024) off S64x1024.size inb) (Finset.subset_univ _)) $$ H
  iintro H
  ihave Hk := Hk $$ H
  iapply Hk

/-- A store of rows of the result. -/
theorem wp_out_store {u : FVec F S64x1024 .bf16} {hx : (TM.access (Rect.unit (s := S1024x1024) off S64x1024.size inb)).Stores Finset.univ}
    {hm : (Finset.univ : Finset (Rect.unit (s := S1024x1024) off S64x1024.size inb).shape.Idx) = Finset.univ ∨ ∀ a, (Rect.unit (s := S1024x1024) off S64x1024.size inb).stride a = 1}
    {α : Type} {K : PUnit → Prog (TpuEff nD τ sig (Elt F) Λ₀ .tc) α} {Q : α → sProp 𝕄} (f : Vec F S1024x1024 .bf16) :
    (outPts c f : sProp 𝕄) ⊢ iprop((outPts c (putRows off inb f u) -∗ wp frame (wpE (defs₀ (F := F)) 𝒱₀ (c : Thread nD τ) none) Set.univ (K ⟨⟩) Q)
      -∗ wp frame (wpE (defs₀ (F := F)) 𝒱₀ (c : Thread nD τ) none) Set.univ
        (.op (.store TM (Rect.unit (s := S1024x1024) off S64x1024.size inb) u Finset.univ hx hm) K) Q) := by
  iintro H Hk
  iapply (wp_store 𝒱₀ (c : Thread nD τ) none Set.univ (m := TM) (r := Rect.unit (s := S1024x1024) off S64x1024.size inb) (w := u)
    (Mk := Finset.univ) (Finset.subset_univ _)) $$ H
  iintro H
  iapply Hk
  iexact H

end rows

/-! ## A run of steps -/

/-- One member of a separating product, set apart. -/
theorem bigSep_put {I : Type} [DecidableEq I] {i : I} {s : Finset I} (h : i ∉ s) (Φ : I → sProp 𝕄) :
    bigSep (insert i s) Φ = iprop(Φ i ∗ bigSep s Φ) := bigSep_insert h

/-- Slots `a`, …, `a + n - 1`. -/
def seg (n a : ℕ) : Finset (Fin 8) := Finset.univ.filter fun j => a ≤ j.val ∧ j.val < a + n

theorem seg_all : seg 8 0 = Finset.univ := by decide
theorem seg_halves : (Finset.univ : Finset (Fin 8)) = seg 4 0 ∪ seg 4 4 := by decide
theorem seg_disjoint : Disjoint (seg 4 0) (seg 4 4) := by decide

theorem seg_succ (n a : ℕ) (h : a + (n + 1) ≤ 8) : seg (n + 1) a = insert ⟨a, by omega⟩ (seg n (a + 1)) := by
  ext j
  simp only [seg, Finset.mem_filter, Finset.mem_univ, true_and, Finset.mem_insert, Fin.ext_iff]
  omega

theorem seg_head (n a : ℕ) (h : a + (n + 1) ≤ 8) : (⟨a, by omega⟩ : Fin 8) ∉ seg n (a + 1) := by
  simp only [seg, Finset.mem_filter, Finset.mem_univ, true_and]
  omega

/-- Steps that each take a slot's `P` to its `Q` and carry `S` along take all the slots' `P` to their `Q`. -/
theorem wp_runs (c : Dev nD) (step : Fin 8 → Prog (TpuEff nD τ sig (Elt F) Λ₀ .tc) PUnit) (P Q : Fin 8 → sProp 𝕄) (S : ℕ → sProp 𝕄)
    (n a : ℕ) (h : a + n ≤ 8)
    (hs : ∀ k : Fin 8, a ≤ k.val → k.val < a + n → ∀ Kt : PUnit → sProp 𝕄,
      iprop(P k ∗ S k.val ∗ ((Q k ∗ S (k.val + 1)) -∗ Kt ⟨⟩)) ⊢ wp frame (wpE (defs₀ (F := F)) 𝒱₀ (c : Thread nD τ) none) Set.univ (step k) Kt)
    (Kt : PUnit → sProp 𝕄) :
    iprop(bigSep (seg n a) P ∗ S a ∗ ((bigSep (seg n a) Q ∗ S (a + n)) -∗ Kt ⟨⟩))
      ⊢ wp frame (wpE (defs₀ (F := F)) 𝒱₀ (c : Thread nD τ) none) Set.univ (runs step n a h) Kt := by
  induction n generalizing a Kt with
  | zero =>
    have e : seg 0 a = ∅ := by unfold seg; exact Finset.filter_false_of_mem fun j _ => by omega
    rw [e, bigSep_empty, bigSep_empty, runs, Prog.pure_eq_ret, wp_ret]
    iintro ⟨-, HS, Hk⟩
    imodintro
    iapply Hk
    isplitr; · iempintro
    iexact HS
  | succ n ih =>
    have ha : a < 8 := by omega
    have h' : a + 1 + n ≤ 8 := by omega
    have hs₀ := hs ⟨a, ha⟩ le_rfl (Nat.lt_add_of_pos_right n.succ_pos)
    have hs₁ := ih (a + 1) h' fun k h1 h2 => hs k (by omega) (by omega)
    rw [seg_succ n a h, bigSep_put (seg_head n a h), bigSep_put (seg_head n a h), runs, wp_bind]
    iintro ⟨⟨HP, HPs⟩, HS, Hk⟩
    iapply hs₀
    isplitl [HP]; · iexact HP
    isplitl [HS]; · iexact HS
    iintro ⟨HQ, HS⟩
    iapply hs₁
    isplitl [HPs]; · iexact HPs
    isplitl [HS]; · iexact HS
    iintro ⟨HQs, HS⟩
    iapply Hk
    isplitl [HQ HQs]
    · isplitl [HQ] <;> iassumption
    rw [show a + (n + 1) = a + 1 + n by omega]
    iexact HS

end Cert.KernelIdeal

end
-- ==== Proof.Steps.lean ====
/- The steps of the body: what each takes and what it leaves. -/
module

public import proofs.«01_k».proof.Proof.Slots

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Dev nD → Vec F S2048x8x64 .bf16) (Wt : Dev nD → Vec F S512x1024 .bf16)

/-! ## The cells and their invariants -/

def barEmb : Dev nD ↪ GSem nD τ sig := ⟨fun c => barCell c, fun _ _ h => congrArg (fun g : GSem nD τ sig => g.1.1) h⟩
theorem dCell_inj (p q : Dev nD × Fin 4 × Fin 8) (h : dCell p.1 p.2.1 p.2.2 = dCell q.1 q.2.1 q.2.2) : p = q := by
  have h1 : p.1 = q.1 := congrArg (fun g : GSem nD τ sig => g.1.1) h
  have h2 := dq_inj (SemLoc.dma.inj (congrArg Prod.snd h))
  exact Prod.ext h1 (Prod.ext h2.1 h2.2)
def dEmb : Dev nD × Fin 4 × Fin 8 ↪ GSem nD τ sig := ⟨fun p => dCell p.1 p.2.1 p.2.2, fun p q h => dCell_inj p q h⟩

abbrev barCells : Finset (GSem nD τ sig) := Finset.univ.map barEmb
abbrev dCells : Finset (GSem nD τ sig) := Finset.univ.map dEmb

theorem bar_mem (c : Dev nD) : barCell c ∈ (barCells ∪ dCells : Finset (GSem nD τ sig)) :=
  Finset.mem_union_left _ (Finset.mem_map_of_mem barEmb (Finset.mem_univ c))
theorem d_mem (c : Dev nD) (a : Fin 4) (k : Fin 8) : dCell c a k ∈ (barCells ∪ dCells : Finset (GSem nD τ sig)) :=
  Finset.mem_union_right _ (Finset.mem_map_of_mem dEmb (Finset.mem_univ (c, a, k)))

/-- The invariants of all the cells, at the names `κ`. -/
def invs (κ : GSem nD τ sig → ℕ) : sProp 𝕄 := bigSep (barCells ∪ dCells) fun g => cellInv ER (exRd X Wt) (κ g) g

instance invs_persistent (κ : GSem nD τ sig → ℕ) : BI.Persistent (invs X Wt κ) := by unfold invs; infer_instance

variable (κ : GSem nD τ sig → ℕ)

theorem inv_bar (c : Dev nD) : (invs X Wt κ : sProp 𝕄) ⊢ cellInv ER (exRd X Wt) (κ (barCell c)) (barCell c) := by
  unfold invs; exact bigSep_elim (bar_mem c)
theorem inv_d (c : Dev nD) (a : Fin 4) (k : Fin 8) : (invs X Wt κ : sProp 𝕄) ⊢ cellInv ER (exRd X Wt) (κ (dCell c a k)) (dCell c a k) := by
  unfold invs; exact bigSep_elim (d_mem c a k)

/-- A cell past its one round gives its counter back at zero. -/
theorem close (n : ℕ) (g : GSem nD τ sig) :
    iprop(cellInv ER (exRd X Wt) n g ∗ atPos ER g (0 + 1) ∅ 0) ⊢ (|={Set.univ}=> semVal g 0 : sProp 𝕄) :=
  Rounds.cell_close ER (exRd X Wt) (Set.mem_univ n) id (duties_later X Wt g)

/-! ## Sending a slot, waiting for a slot -/

/-- What device `c` pays a copy of slot `k` with: both duties' tokens, with both cells standing at round 0. -/
def sendToks (c c' : Dev nD) (a a' : Fin 4) (k : Fin 8) : sProp 𝕄 :=
  iprop(dutyTok ER (dCell c a k) 0 false ∗ dutyTok ER (dCell c' a' k) 0 false ∗ reached ER (dCell c a k) 0 ∗ reached ER (dCell c' a' k) 0)

theorem slot_amount (b : Memref sig .tc .vmem S8x64x1024 .bf16) (k : Fin 8) (q : DmaSem sig) : (slotRef b k).view.amount (.dma q) = N := rfl

/-- A remote copy of slot `k` of `src`, holding `v`, to slot `k` of `dst` of device `c'`. -/
theorem wp_send (c d c' : Dev nD) (hd : d = c') (a a' : Fin 4) (k : Fin 8) (src dst : Memref sig .tc .vmem S8x64x1024 .bf16) (v : FVec F S64x1024 .bf16)
    (h₁ : dmaPay X Wt c k a = slotOwn src c k v) (h₂ : dmaPay X Wt c' k a' = slotOwn dst c' k v)
    {hsc : (slotRef dst k).view.ref.isScScratch = false} {hsrc : (slotRef src k).view.WordExact} {hdst : (slotRef dst k).view.WordExact}
    {hsem : DmaTarget.Typed .vmem (.dma (dq a' k)) (.remote (d : Thread nD τ) (slotRef dst k) (.dma (dq a k)) hsc)}
    {O₁ : CellTallies nD τ sig Unit} (O : CellTallies nD τ sig Unit) (hO : O₁ = O + tallyAt (dCell c' a' k) () N) (W : Waits sig Unit)
    {α : Type} {K : PUnit → Prog (TpuEff nD τ sig (Elt F) Λ₀ .tc) α} {Q : α → sProp 𝕄} :
    iprop(invs X Wt κ ∗ slotOwn src c k v ∗ slotAny dst c' k ∗ owes (c : Thread nD τ) O₁ W ∗ sendToks c c' a a' k)
      ⊢ iprop(((cred (tallyAt (dCell c a k) () N) ∗ owes (c : Thread nD τ) O W) -∗ wp frame (wpE (defs₀ (F := F)) 𝒱₀ (c : Thread nD τ) none) Set.univ (K ⟨⟩) Q)
        -∗ wp frame (wpE (defs₀ (F := F)) 𝒱₀ (c : Thread nD τ) none) Set.univ
          (.op (.enqueueDma (slotRef src k) (.remote (d : Thread nD τ) (slotRef dst k) (.dma (dq a k)) hsc) (.dma (dq a' k)) hsrc hdst hsem) K) Q) := by
  subst hd
  unfold sendToks slotAny slotOwn owns
  iintro ⟨#HI, ⟨%fs, %hfs, Hs⟩, ⟨%vd, %fd, -, Hd⟩, HO, Ht, Ht', #Hr, #Hr'⟩ Hk
  iapply (Rounds.wp_send_pointsTo 𝒱₀ ER (exRd X Wt) (c : Thread nD τ) none (c' := (d : Thread nD τ)) (src := slotRef src k) (dst := slotRef dst k)
      (sS := .dma (dq a k)) (sem := .dma (dq a' k)) (q := fullShare) (fs := fs) (κ₁ := κ (dCell c a k)) (κ₂ := κ (dCell d a' k))
      (r₁ := 0) (r₂ := 0) (d₁ := false) (d₂ := false) (fd := fd)
      (by rw [duties_dma]; exact Finset.mem_singleton_self _) (by rw [duties_dma]; exact Finset.mem_singleton_self _)
      () () N (slot_amount dst k _) (amount_dma X Wt c a k false) (amount_dma X Wt d a' k false) O hO (W := W)
      (by
        rw [payload_dma, h₁]; unfold slotOwn owns
        iintro H; iexists fs; isplitr; · ipureintro; exact hfs
        iexact H)
      (by
        rw [payload_dma, h₂]; unfold slotOwn owns
        iintro H; iexists ((slotRef dst k).view.write (Elt F) fd ((slotRef src k).view.read (Elt F) fs) Finset.univ)
        isplitr
        · ipureintro; exact (View.read_write_univ _ _).trans hfs
        iexact H)) $$ [Hs Hd HO Ht Ht']
  · isplitr; · iapply (inv_d X Wt κ c a k); iexact HI
    isplitr; · iapply (inv_d X Wt κ d a' k); iexact HI
    isplitl [Hs]; · iexact Hs
    isplitl [Hd]; · iexact Hd
    isplitl [HO]; · iexact HO
    isplitl [Ht]; · iexact Ht
    isplitr; · iexact Hr
    isplitl [Ht']; · iexact Ht'
    iexact Hr'
  iexact Hk

/-- A wait for a copy of a slot: the payload comes, and the cell gives its counter back. -/
theorem wp_recv (c : Dev nD) (a : Fin 4) (k : Fin 8) (src dst : Memref sig .tc .vmem S8x64x1024 .bf16)
    {hsrc : (slotRef src k).view.WordExact} {hdst : (slotRef dst k).view.WordExact} (O : CellTallies nD τ sig Unit) (W : Waits sig Unit)
    {α : Type} {K : PUnit → Prog (TpuEff nD τ sig (Elt F) Λ₀ .tc) α} {Q : α → sProp 𝕄} :
    iprop(invs X Wt κ ∗ cred (tallyAt (dCell c a k) () N) ∗ owes (c : Thread nD τ) O W ∗ MayWait (c : Thread nD τ) (.dma (dq a k)) () O ∗ atPos ER (dCell c a k) 0 ∅ 0)
      ⊢ iprop(((owes (c : Thread nD τ) O (insert (SemLoc.dma (dq a k), ()) W) ∗ semVal (dCell c a k) 0 ∗ dmaPay X Wt c k a)
          -∗ wp frame (wpE (defs₀ (F := F)) 𝒱₀ (c : Thread nD τ) none) Set.univ (K ⟨⟩) Q)
        -∗ wp frame (wpE (defs₀ (F := F)) 𝒱₀ (c : Thread nD τ) none) Set.univ (.op (.waitDma2 (dq a k) (slotRef src k) (slotRef dst k) hsrc hdst) K) Q) := by
  iintro ⟨#HI, Hc, HO, HM, Hat⟩ Hk
  iapply (Rounds.wp_wait_rest_token 𝒱₀ ER (exRd X Wt) (c : Thread nD τ) none (κ := κ (dCell c a k))
      (wpE_waitDma2_eq (src := slotRef src k) (dst := slotRef dst k) 𝒱₀ (c : Thread nD τ) none Set.univ) (Set.mem_univ _) () (O := O) (W := W) (R := 0) (m := 0) (T := ∅)
      ((Nat.zero_add _).trans (expect_dma X Wt c a k).symm)) $$ [Hc HO HM Hat]
  · isplitr; · iapply (inv_d X Wt κ c a k); iexact HI
    isplitl [Hc]; · iexact Hc
    isplitl [HO]; · iexact HO
    isplitl [HM]; · iexact HM
    iexact Hat
  iintro ⟨HO, Hat, -, Hpay⟩
  ihave Hpay := (Entails.of_eq (rest_dma X Wt c a k)) $$ Hpay
  iapply fupd_wp
  imod (close X Wt (κ (dCell c a k)) (dCell c a k)) $$ [Hat] with Hv
  · isplitr; · iapply (inv_d X Wt κ c a k); iexact HI
    iexact Hat
  imodintro
  iapply Hk
  isplitl [HO]; · iexact HO
  isplitl [Hv] <;> iassumption

/-! ## The result's contents -/

section Result

/-- When a row of the result is written: own rows in slot order, then received rows in slot order. -/
def turn (c : Dev nD) (i : S1024x1024.Idx) : ℕ :=
  if (i 0).val / 512 = c.val % 2 then (i 0).val / 64 % 8 else 8 + (i 0).val / 64 % 8

theorem own_off (c : Dev nD) (k : Fin 8) : k0_off3 c (BitVec.ofNat 32 (hi k).val) (BitVec.ofNat 32 (64 * (lo k).val)) = ![512 * (c.val % 2) + 64 * k.val, 0] := by
  rw [k0_off3_eq]; congr 1; show 512 * (c.val % 2) + 256 * (k.val / 4) + 64 * (k.val % 4) = _; omega
theorem got_off (c : Dev nD) (k : Fin 8) : k0_off4 c (BitVec.ofNat 32 (hi k).val) (BitVec.ofNat 32 (64 * (lo k).val)) = ![512 * (1 - c.val % 2) + 64 * k.val, 0] := by
  rw [k0_off4_eq]; congr 1; show 256 * (k.val / 4) + 64 * (k.val % 4) + 512 - 512 * (c.val % 2) = _; omega

/-- The elements of 64 rows at row `o`, and which elements they are. -/
theorem rows_emb {off : Fin 2 → ℕ} {inb : ∀ a, off a + S64x1024.size a ≤ S1024x1024.size a} {o : ℕ} (h : off = ![o, 0]) (j : S64x1024.Idx) :
    ((Rect.unit (s := S1024x1024) off S64x1024.size inb).emb j 0).val = o + (j 0).val
      ∧ ((Rect.unit (s := S1024x1024) off S64x1024.size inb).emb j 1).val = (j 1).val := by
  subst h
  exact ⟨ValueKit.rect_emb_unit_val _ _ _ _ 0, (ValueKit.rect_emb_unit_val _ _ _ _ 1).trans (Nat.zero_add _)⟩

theorem row_bounds (i : S1024x1024.Idx) : (i 0).val < 1024 ∧ (i 1).val < 1024 := ⟨(i 0).isLt, (i 1).isLt⟩

/-- An element of the result by its row within a block of 64 and its column. -/
def inRows (i : S1024x1024.Idx) : S64x1024.Idx :=
  ix2 (n0 := 64) (n1 := 1024) ⟨(i 0).val % 64, Nat.mod_lt _ (by decide)⟩ ⟨(i 1).val, (row_bounds i).2⟩

theorem rows_mem {off : Fin 2 → ℕ} {inb : ∀ a, off a + S64x1024.size a ≤ S1024x1024.size a} {o : ℕ} (h : off = ![o, 0]) (i : S1024x1024.Idx)
    (hi' : (i 0).val = o + (i 0).val % 64) : i = (Rect.unit (s := S1024x1024) off S64x1024.size inb).emb (inRows i) := by
  have e := rows_emb (inb := inb) h (inRows i)
  funext a
  match a with
  | ⟨0, _⟩ => exact Fin.ext (hi'.trans e.1.symm)
  | ⟨1, _⟩ => exact Fin.ext e.2.symm

/-- What device `c` leaves in its result: 64 rows finished here, or received from the z-partner. -/
def outAt (c : Dev nD) : Vec F S1024x1024 .bf16 := fun i =>
  (if (i 0).val / 512 = c.val % 2 then fin X Wt c ⟨(i 0).val / 64 % 8, Nat.mod_lt _ (by decide)⟩
    else fin X Wt (pz c) ⟨(i 0).val / 64 % 8, Nat.mod_lt _ (by decide)⟩) (inRows i)

/-- `outAt` at a row and column, whichever way its block is found. -/
theorem outAt_of (c : Dev nD) (i : S1024x1024.Idx) (k : Fin 8) (j : S64x1024.Idx) (hk : (i 0).val / 64 % 8 = k.val)
    (hj : (i 0).val % 64 = (j 0).val) (h1 : (i 1).val = (j 1).val) :
    outAt X Wt c i = (if (i 0).val / 512 = c.val % 2 then fin X Wt c k else fin X Wt (pz c) k) j := by
  unfold outAt
  have e1 : (⟨(i 0).val / 64 % 8, Nat.mod_lt _ (by decide)⟩ : Fin 8) = k := Fin.ext hk
  have e2 : inRows i = j := by
    funext a; match a with
    | ⟨0, _⟩ => exact Fin.ext hj
    | ⟨1, _⟩ => exact Fin.ext h1
  rw [e1]
  exact congrArg _ e2

/-- The rows finished here hold what this device finished. -/
theorem outAt_own (c : Dev nD) (k : Fin 8) (j : S64x1024.Idx) : outAt X Wt c ((ownRect c k).emb j) = fin X Wt c k j := by
  have h0 := rows_emb (inb := k0_off3_inb c (hi k) (lo k)) (own_off c k) j
  have hj : (j 0).val < 64 := (j 0).isLt
  rw [outAt_of X Wt c _ k j (by omega) (by omega) h0.2, if_pos (by omega)]

/-- The other rows hold what the z-partner finished. -/
theorem outAt_got (c : Dev nD) (k : Fin 8) (j : S64x1024.Idx) : outAt X Wt c ((gotRect c k).emb j) = fin X Wt (pz c) k j := by
  have h0 := rows_emb (inb := k0_off4_inb c (hi k) (lo k)) (got_off c k) j
  have hj : (j 0).val < 64 := (j 0).isLt
  rw [outAt_of X Wt c _ k j (by omega) (by omega) h0.2, if_neg (by omega)]

theorem turn_own (c : Dev nD) (k : Fin 8) (i : S1024x1024.Idx) (h : turn c i = k.val) : ∃ j, i = (ownRect c k).emb j := by
  unfold turn at h
  have hb := row_bounds i
  split at h
  · exact ⟨inRows i, rows_mem (own_off c k) i (by omega)⟩
  · omega

theorem turn_got (c : Dev nD) (k : Fin 8) (i : S1024x1024.Idx) (h : turn c i = 8 + k.val) : ∃ j, i = (gotRect c k).emb j := by
  unfold turn at h
  have hb := row_bounds i
  split at h
  · omega
  · exact ⟨inRows i, rows_mem (got_off c k) i (by omega)⟩

theorem turn_lt (c : Dev nD) (i : S1024x1024.Idx) : turn c i < 16 := by
  unfold turn; split <;> omega

/-- The result's buffer with the first `n` blocks of rows written. -/
def outUpTo (c : Dev nD) (n : ℕ) : sProp 𝕄 :=
  iprop(∃ f : Vec F S1024x1024 .bf16, ⌜∀ i, turn c i < n → f i = outAt X Wt c i⌝ ∗ outPts c f)

/-- Own rows `k` written next. -/
theorem put_own (c : Dev nD) (k : Fin 8) (f : Vec F S1024x1024 .bf16) (hf : ∀ i, turn c i < k.val → f i = outAt X Wt c i) :
    ∀ i, turn c i < k.val + 1 → putRows _ (k0_off3_inb c (hi k) (lo k)) f (fin X Wt c k) i = outAt X Wt c i := fun i hi' => by
  by_cases h : ∃ j, i = (ownRect c k).emb j
  · obtain ⟨j, rfl⟩ := h
    exact (putRows_emb _ _ f _ j).trans (outAt_own X Wt c k j).symm
  · rw [putRows_of_ne _ _ f _ i fun j e => h ⟨j, e⟩]
    exact hf i (lt_of_le_of_ne (Nat.lt_succ_iff.mp hi') fun e => h (turn_own c k i e))

/-- Received rows `k` written next. -/
theorem put_got (c : Dev nD) (k : Fin 8) (f : Vec F S1024x1024 .bf16) (hf : ∀ i, turn c i < 8 + k.val → f i = outAt X Wt c i) :
    ∀ i, turn c i < 8 + (k.val + 1) → putRows _ (k0_off4_inb c (hi k) (lo k)) f (fin X Wt (pz c) k) i = outAt X Wt c i := fun i hi' => by
  by_cases h : ∃ j, i = (gotRect c k).emb j
  · obtain ⟨j, rfl⟩ := h
    exact (putRows_emb _ _ f _ j).trans (outAt_got X Wt c k j).symm
  · rw [putRows_of_ne _ _ f _ i fun j e => h ⟨j, e⟩]
    exact hf i (lt_of_le_of_ne (Nat.lt_succ_iff.mp hi') fun e => h (turn_got c k i e))

end Result

/-! ## The four steps -/

/-- The operand's and the weights' staging buffers. -/
abbrev oPts (c : Dev nD) : sProp 𝕄 := (OM.view.loc (c : Thread nD τ)) ↦{fullShare} (X c : Buf (Elt F) (OM.view.loc (c : Thread nD τ)))
abbrev wPts (c : Dev nD) : sProp 𝕄 := (WM.view.loc (c : Thread nD τ)) ↦{fullShare} (Wt c : Buf (Elt F) (WM.view.loc (c : Thread nD τ)))

theorem read_o (c : Dev nD) (r : Rect S2048x8x64) : (OM.access r).read (Elt F) (X c) = fun j => X c (r.emb j) := rfl

/-- What is owed, at some record of waits. -/
def owing (c : Dev nD) (O : CellTallies nD τ sig Unit) : sProp 𝕄 := iprop(∃ W, owes (c : Thread nD τ) O W)

def preX (c : Dev nD) (k : Fin 8) : sProp 𝕄 := iprop(slotAny SX c k ∗ slotAny RX (px c) k ∗ sendToks c (px c) 0 1 k)
def postX (c : Dev nD) (k : Fin 8) : sProp 𝕄 := cred (tallyAt (dCell c 0 k) () N)
def carryX (c : Dev nD) (n : ℕ) : sProp 𝕄 := iprop(invs X Wt κ ∗ oPts X c ∗ owing c (owed c n 0))

/-- One x-send: the chunk is stored and copied to the x-partner. -/
theorem step_x (c : Dev nD) (k : Fin 8) (Kt : PUnit → sProp 𝕄) :
    iprop(preX c k ∗ carryX X Wt κ c k.val ∗ ((postX c k ∗ carryX X Wt κ c (k.val + 1)) -∗ Kt ⟨⟩))
      ⊢ wp frame (wpE (defs₀ (F := F)) 𝒱₀ (c : Thread nD τ) none) Set.univ
        (stepX OM SX RX (Memref.isWhole_whole _) (Memref.isWhole_whole _) cc0_scratch4 cc0_scratch5 c (wv Wt c) k) Kt := by
  unfold preX carryX owing stepX
  simp only [Prog.lift, Prog.bind_op, Prog.bind_ret]
  iintro ⟨⟨Hs, Hr, Ht⟩, ⟨#HI, Ho, ⟨%W, HO⟩⟩, Hk⟩
  iapply (wp_load_rect 𝒱₀ (c : Thread nD τ) none Set.univ (m := OM) (r := sendRect c k) (S := Finset.univ) (q := fullShare) (f := X c) (Finset.subset_univ _)) $$ Ho
  iintro Ho
  unfold slotAny
  icases Hs with ⟨%v₀, Hs⟩
  iapply (wp_slot_load SX c k v₀) $$ Hs
  iintro Hs
  iapply (wp_slot_store SX c k (u := chunk X Wt c k) v₀) $$ Hs
  iintro Hs
  iapply (wp_send X Wt κ c (pxDev c) (px c) (pxDev_eq c) 0 1 k SX RX (chunk X Wt c k) rfl (by dsimp only [dmaPay]; rw [px_px]) (O₁ := owed c k.val 0) (owed c (k.val + 1) 0)
    (by unfold owed; rw [restOwed_step (px c) 1 k]; exact add_right_comm _ _ _) W) $$ [Hs Hr HO Ht]
  · isplitr; · iexact HI
    isplitl [Hs]; · iexact Hs
    isplitl [Hr]; · unfold slotAny; iexact Hr
    isplitl [HO] <;> iassumption
  iintro ⟨Hc, HO⟩
  rw [wp_ret]
  imodintro
  iapply Hk
  unfold postX
  isplitl [Hc]; · iexact Hc
  isplitr; · iexact HI
  isplitl [Ho]; · iexact Ho
  iexists W; iexact HO

def preZ (c : Dev nD) (k : Fin 8) : sProp 𝕄 :=
  iprop((cred (tallyAt (dCell c 1 k) () N) ∗ atPos ER (dCell c 1 k) 0 ∅ 0) ∗ slotAny SZ c k ∗ slotAny RZ (pz c) k ∗ sendToks c (pz c) 2 3 k)
def postZ (c : Dev nD) (k : Fin 8) : sProp 𝕄 :=
  iprop(semVal (dCell c 1 k) 0 ∗ slotAny RX c k ∗ cred (tallyAt (dCell c 2 k) () N))
def carryZ (c : Dev nD) (n : ℕ) : sProp 𝕄 := iprop(invs X Wt κ ∗ levAts L lv ∗ outUpTo X Wt c n ∗ owing c (owed c 8 n))

/-- One finished slot: the x-partner's chunk arrives, its rows are written and copied to the z-partner. -/
theorem step_z (c : Dev nD) (k : Fin 8) (mv : FVec F S256x1024 .f32) (hmv : mv = mine X Wt c (hi k)) (Kt : PUnit → sProp 𝕄) :
    iprop(preZ c k ∗ carryZ X Wt κ c k.val ∗ ((postZ c k ∗ carryZ X Wt κ c (k.val + 1)) -∗ Kt ⟨⟩))
      ⊢ wp frame (wpE (defs₀ (F := F)) 𝒱₀ (c : Thread nD τ) none) Set.univ
        (stepZ TM (Memref.isWhole_whole _) SX RX SZ RZ (Memref.isWhole_whole _) (Memref.isWhole_whole _) (Memref.isWhole_whole _) (Memref.isWhole_whole _)
          cc0_scratch5 cc0_scratch6 cc0_scratch7 c mv k) Kt := by
  subst hmv
  unfold preZ carryZ owing outUpTo stepZ
  simp only [Prog.lift, Prog.bind_op, Prog.bind_ret]
  iintro ⟨⟨⟨Hc, Hat⟩, Hs, Hr, Ht⟩, ⟨#HI, #Hlev, ⟨%f, %hf, Hout⟩, ⟨%W, HO⟩⟩, Hk⟩
  iapply (wp_recv X Wt κ c 1 k SX RX (owed c 8 k.val) W) $$ [Hc HO Hat]
  · isplitr; · iexact HI
    isplitl [Hc]; · iexact Hc
    isplitl [HO]; · iexact HO
    isplitr; · iapply (mayWait_rx c k k.val); iexact Hlev
    iexact Hat
  iintro ⟨HO, Hv, Hpay⟩
  ihave Hrx := (show dmaPay X Wt c k 1 ⊢ (slotOwn RX c k (chunk X Wt (px c) k) : sProp 𝕄) from .rfl) $$ Hpay
  iapply (wp_slot_load RX c k (chunk X Wt (px c) k)) $$ Hrx
  iintro Hrx
  iapply (wp_out_load c _ (k0_off3_inb c (hi k) (lo k)) f) $$ Hout
  iintro Hout %_
  iapply (wp_out_store c _ (k0_off3_inb c (hi k) (lo k)) (u := fin X Wt c k) f) $$ Hout
  iintro Hout
  unfold slotAny
  icases Hs with ⟨%v₀, Hs⟩
  iapply (wp_slot_load SZ c k v₀) $$ Hs
  iintro Hs
  iapply (wp_slot_store SZ c k (u := fin X Wt c k) v₀) $$ Hs
  iintro Hs
  iapply (wp_send X Wt κ c (pzDev c) (pz c) (pzDev_eq c) 2 3 k SZ RZ (fin X Wt c k) rfl (by dsimp only [dmaPay]; rw [pz_pz]) (O₁ := owed c 8 k.val) (owed c 8 (k.val + 1))
    (by unfold owed; rw [restOwed_step (pz c) 3 k]; exact (add_assoc _ _ _).symm) (insert (SemLoc.dma (dq 1 k), ()) W)) $$ [Hs Hr HO Ht]
  · isplitr; · iexact HI
    isplitl [Hs]; · iexact Hs
    isplitl [Hr]; · unfold slotAny; iexact Hr
    isplitl [HO] <;> iassumption
  iintro ⟨Hc, HO⟩
  rw [wp_ret]
  imodintro
  iapply Hk
  unfold postZ slotAny
  isplitl [Hv Hrx Hc]
  · isplitl [Hv]; · iexact Hv
    isplitl [Hrx]; · iexists (chunk X Wt (px c) k); iexact Hrx
    iexact Hc
  isplitr; · iexact HI
  isplitr; · iexact Hlev
  isplitl [Hout]
  · iexists _; isplitr; · ipureintro; exact put_own X Wt c k f hf
    iexact Hout
  iexists _; iexact HO

def preR (c : Dev nD) (k : Fin 8) : sProp 𝕄 := iprop(cred (tallyAt (dCell c 3 k) () N) ∗ atPos ER (dCell c 3 k) 0 ∅ 0)
def postR (c : Dev nD) (k : Fin 8) : sProp 𝕄 := iprop(semVal (dCell c 3 k) 0 ∗ slotAny RZ c k)
def carryR (c : Dev nD) (n : ℕ) : sProp 𝕄 := iprop(invs X Wt κ ∗ outUpTo X Wt c (8 + n) ∗ owing c 0)

/-- One received slot: the z-partner's finished rows arrive and are written. -/
theorem step_r (c : Dev nD) (k : Fin 8) (Kt : PUnit → sProp 𝕄) :
    iprop(preR c k ∗ carryR X Wt κ c k.val ∗ ((postR c k ∗ carryR X Wt κ c (k.val + 1)) -∗ Kt ⟨⟩))
      ⊢ wp frame (wpE (defs₀ (F := F)) 𝒱₀ (c : Thread nD τ) none) Set.univ
        (stepR TM (Memref.isWhole_whole _) SZ RZ (Memref.isWhole_whole _) (Memref.isWhole_whole _) cc0_scratch7 c k) Kt := by
  unfold preR carryR owing outUpTo stepR
  simp only [Prog.lift, Prog.bind_op, Prog.bind_ret]
  iintro ⟨⟨Hc, Hat⟩, ⟨#HI, ⟨%f, %hf, Hout⟩, ⟨%W, HO⟩⟩, Hk⟩
  iapply (wp_recv X Wt κ c 3 k SZ RZ 0 W) $$ [Hc HO Hat]
  · isplitr; · iexact HI
    isplitl [Hc]; · iexact Hc
    isplitl [HO]; · iexact HO
    isplitr; · rw [MayWait_zero]; iempintro
    iexact Hat
  iintro ⟨HO, Hv, Hpay⟩
  ihave Hrz := (show dmaPay X Wt c k 3 ⊢ (slotOwn RZ c k (fin X Wt (pz c) k) : sProp 𝕄) from .rfl) $$ Hpay
  iapply (wp_slot_load RZ c k (fin X Wt (pz c) k)) $$ Hrz
  iintro Hrz
  iapply (wp_out_load c _ (k0_off4_inb c (hi k) (lo k)) f) $$ Hout
  iintro Hout %_
  rw [unlead_lead]
  iapply (wp_out_store c _ (k0_off4_inb c (hi k) (lo k)) (u := fin X Wt (pz c) k) f) $$ Hout
  iintro Hout
  rw [wp_ret]
  imodintro
  iapply Hk
  unfold postR slotAny
  isplitl [Hv Hrz]
  · isplitl [Hv]; · iexact Hv
    iexists _; iexact Hrz
  isplitr; · iexact HI
  isplitl [Hout]
  · iexists _; isplitr; · ipureintro; exact put_got X Wt c k f hf
    iexact Hout
  iexists _; iexact HO

def preW (c : Dev nD) (a : Fin 4) (k : Fin 8) : sProp 𝕄 := iprop(cred (tallyAt (dCell c a k) () N) ∗ atPos ER (dCell c a k) 0 ∅ 0)
def postW (b : Memref sig .tc .vmem S8x64x1024 .bf16) (c : Dev nD) (a : Fin 4) (k : Fin 8) : sProp 𝕄 := iprop(semVal (dCell c a k) 0 ∗ slotAny b c k)
def carryW (c : Dev nD) (_ : ℕ) : sProp 𝕄 := iprop(invs X Wt κ ∗ owing c 0)

/-- One wait for a send to have left. -/
theorem step_w (c : Dev nD) (a : Fin 4) (k : Fin 8) (src dst : Memref sig .tc .vmem S8x64x1024 .bf16) (hsrc : src.IsWhole) (hdst : dst.IsWhole)
    (h : dmaPay X Wt c k a ⊢ (slotAny src c k : sProp 𝕄)) (Kt : PUnit → sProp 𝕄) :
    iprop(preW c a k ∗ carryW X Wt κ c k.val ∗ ((postW src c a k ∗ carryW X Wt κ c (k.val + 1)) -∗ Kt ⟨⟩))
      ⊢ wp frame (wpE (defs₀ (F := F)) 𝒱₀ (c : Thread nD τ) none) Set.univ (stepW (qs a) src dst hsrc hdst k) Kt := by
  unfold preW carryW owing stepW
  simp only [Prog.lift]
  iintro ⟨⟨Hc, Hat⟩, ⟨#HI, ⟨%W, HO⟩⟩, Hk⟩
  iapply (wp_recv X Wt κ c a k dst src 0 W) $$ [Hc HO Hat]
  · isplitr; · iexact HI
    isplitl [Hc]; · iexact Hc
    isplitl [HO]; · iexact HO
    isplitr; · rw [MayWait_zero]; iempintro
    iexact Hat
  iintro ⟨HO, Hv, Hpay⟩
  rw [wp_ret]
  imodintro
  iapply Hk
  unfold postW
  isplitl [Hv Hpay]
  · isplitl [Hv]; · iexact Hv
    iapply h; iexact Hpay
  isplitr; · iexact HI
  iexists _; iexact HO

end Cert.KernelIdeal

end
-- ==== Proof.Run.lean ====
/- The whole body, from what a device holds when it starts to what it holds when it is done. -/
module

public import proofs.«01_k».proof.Proof.Steps

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Dev nD → Vec F S2048x8x64 .bf16) (Wt : Dev nD → Vec F S512x1024 .bf16) (κ : GSem nD τ sig → ℕ)

/-- The body on the buffers and semaphores of this kernel. -/
abbrev theBody : Prog (TpuEff nD τ sig (Elt F) Λ₀ .tc) PUnit :=
  bodyProg OM WM TM (Memref.isWhole_whole _) SX RX SZ RZ (Memref.isWhole_whole _) (Memref.isWhole_whole _) (Memref.isWhole_whole _)
    (Memref.isWhole_whole _) cc0_scratch4 cc0_scratch5 cc0_scratch6 cc0_scratch7

/-- Two families as one family of pairs, and back. -/
theorem zip_all {I : Type} [Fintype I] {Φ Ψ : I → sProp 𝕄} :
    iprop(bigSep Finset.univ Φ ∗ bigSep Finset.univ Ψ) ⊢ bigSep Finset.univ (fun k => iprop(Φ k ∗ Ψ k)) := Entails.of_eq (bigSep_sep _ _ _).symm
theorem unzip_all {I : Type} [Fintype I] {Φ Ψ : I → sProp 𝕄} :
    bigSep Finset.univ (fun k => iprop(Φ k ∗ Ψ k)) ⊢ iprop(bigSep Finset.univ Φ ∗ bigSep Finset.univ Ψ) := Entails.of_eq (bigSep_sep _ _ _)

/-! ## What a device holds -/

/-- For slot `k`: the two slots to send from, the tokens of the four duties the device pays, its positions on its four cells, and the
    credit of its two receives. -/
def slotIn (c : Dev nD) (k : Fin 8) : sProp 𝕄 :=
  iprop((slotAny SX c k ∗ slotAny SZ c k)
    ∗ (dutyTok ER (dCell c 0 k) 0 false ∗ dutyTok ER (dCell (px c) 1 k) 0 false ∗ dutyTok ER (dCell c 2 k) 0 false ∗ dutyTok ER (dCell (pz c) 3 k) 0 false)
    ∗ (atPos ER (dCell c 0 k) 0 ∅ 0 ∗ atPos ER (dCell c 1 k) 0 ∅ 0 ∗ atPos ER (dCell c 2 k) 0 ∅ 0 ∗ atPos ER (dCell c 3 k) 0 ∅ 0)
    ∗ (cred (tallyAt (dCell c 1 k) () N) ∗ cred (tallyAt (dCell c 3 k) () N)))

/-- The send cells of slot `k` stand at round 0. -/
def sendsReached (c : Dev nD) (k : Fin 8) : sProp 𝕄 := iprop(reached ER (dCell c 0 k) 0 ∗ reached ER (dCell c 2 k) 0)

/-- The barrier: the position, both partners' cells at round 0, the tokens of the two signals, and the credit of the wait. -/
def barIn (c : Dev nD) : sProp 𝕄 :=
  iprop(atPos ER (barCell c) 0 ∅ 0 ∗ (reached ER (barCell (px c)) 0 ∗ reached ER (barCell (pz c)) 0)
    ∗ (dutyTok ER (barCell (px c)) 0 true ∗ dutyTok ER (barCell (pz c)) 0 false) ∗ cred (tallyAt (barCell c) () 2))

/-- Slot `k` at the end: four counters back at zero, four slots at some contents. -/
def slotOut (c : Dev nD) (k : Fin 8) : sProp 𝕄 :=
  iprop(postW SX c 0 k ∗ postW RX c 1 k ∗ postW SZ c 2 k ∗ postW RZ c 3 k)

def bodyPre (c : Dev nD) : sProp 𝕄 :=
  iprop((invs X Wt κ ∗ levAts L lv) ∗ barIn c ∗ bigSep Finset.univ (slotIn c) ∗ bigSep Finset.univ (sendsReached c)
    ∗ (landing RX c 1 ∗ landing RZ c 3) ∗ (oPts X c ∗ wPts Wt c ∗ ∃ f, outPts c f) ∗ owing c (O₀ c))

def bodyPost (c : Dev nD) : sProp 𝕄 :=
  iprop(semVal (barCell c) 0 ∗ bigSep Finset.univ (slotOut c) ∗ (oPts X c ∗ wPts Wt c ∗ outPts c (outAt X Wt c)) ∗ owing c 0)

/-- What the steps of slot `k` take, from what the device and its partners hold of it. -/
theorem slot_deal (c : Dev nD) (k : Fin 8) :
    iprop(slotIn c k ∗ sendsReached c k ∗ (slotAny RX (px c) k ∗ reached ER (dCell (px c) 1 k) 0) ∗ (slotAny RZ (pz c) k ∗ reached ER (dCell (pz c) 3 k) 0))
      ⊢ (iprop(preX c k ∗ preZ c k ∗ preR c k ∗ atPos ER (dCell c 0 k) 0 ∅ 0 ∗ atPos ER (dCell c 2 k) 0 ∅ 0) : sProp 𝕄) := by
  unfold slotIn sendsReached preX preZ preR sendToks
  iintro ⟨⟨⟨Hsx, Hsz⟩, ⟨T0, T1, T2, T3⟩, ⟨A0, A1, A2, A3⟩, C1, C3⟩, ⟨R0, R2⟩, ⟨Hrx, R1⟩, Hrz, R3⟩
  isplitl [Hsx Hrx T0 T1 R0 R1]
  · isplitl [Hsx]; · iexact Hsx
    isplitl [Hrx]; · iexact Hrx
    isplitl [T0]; · iexact T0
    isplitl [T1]; · iexact T1
    isplitl [R0] <;> iassumption
  isplitl [A1 C1 Hsz Hrz T2 T3 R2 R3]
  · isplitl [A1 C1]; · isplitl [C1] <;> iassumption
    isplitl [Hsz]; · iexact Hsz
    isplitl [Hrz]; · iexact Hrz
    isplitl [T2]; · iexact T2
    isplitl [T3]; · iexact T3
    isplitl [R2] <;> iassumption
  isplitl [A3 C3]; · isplitl [C3] <;> iassumption
  isplitl [A0] <;> iassumption

theorem slots_deal (c : Dev nD) :
    iprop(bigSep Finset.univ (slotIn c) ∗ bigSep Finset.univ (sendsReached c) ∗ landing RX (px c) 1 ∗ landing RZ (pz c) 3)
      ⊢ (iprop(bigSep Finset.univ (preX c) ∗ bigSep Finset.univ (preZ c) ∗ bigSep Finset.univ (preR c)
        ∗ bigSep Finset.univ (fun k => atPos ER (dCell c 0 k) 0 ∅ 0) ∗ bigSep Finset.univ (fun k => atPos ER (dCell c 2 k) 0 ∅ 0)) : sProp 𝕄) := by
  unfold landing
  iintro ⟨H1, H2, H3, H4⟩
  ihave H34 := zip_all $$ [H3 H4]
  · isplitl [H3] <;> iassumption
  ihave H24 := zip_all $$ [H2 H34]
  · isplitl [H2] <;> iassumption
  ihave H := zip_all $$ [H1 H24]
  · isplitl [H1] <;> iassumption
  ihave H := (show _ ⊢ (bigSep Finset.univ (fun k => iprop(preX c k ∗ preZ c k ∗ preR c k ∗ atPos ER (dCell c 0 k) 0 ∅ 0 ∗ atPos ER (dCell c 2 k) 0 ∅ 0)) : sProp 𝕄) from
    bigSep_mono fun k _ => slot_deal c k) $$ H
  ihave H := unzip_all $$ H; icases H with ⟨G1, H⟩
  ihave H := unzip_all $$ H; icases H with ⟨G2, H⟩
  ihave H := unzip_all $$ H; icases H with ⟨G3, H⟩
  ihave H := unzip_all $$ H; icases H with ⟨G4, G5⟩
  isplitl [G1]; · iexact G1
  isplitl [G2]; · iexact G2
  isplitl [G3]; · iexact G3
  isplitl [G4] <;> iassumption

/-- A send's position with its credit is what its wait takes. -/
theorem waits_deal (c : Dev nD) (a : Fin 4) :
    iprop(bigSep Finset.univ (fun k : Fin 8 => cred (tallyAt (dCell c a k) () N)) ∗ bigSep Finset.univ (fun k => atPos ER (dCell c a k) 0 ∅ 0))
      ⊢ (bigSep Finset.univ (preW c a) : sProp 𝕄) := by
  unfold preW; exact zip_all

theorem slots_collect (c : Dev nD) :
    iprop(bigSep Finset.univ (postW SX c 0) ∗ bigSep Finset.univ (postW RX c 1) ∗ bigSep Finset.univ (postW SZ c 2) ∗ bigSep Finset.univ (postW RZ c 3))
      ⊢ (bigSep Finset.univ (slotOut c) : sProp 𝕄) := by
  unfold slotOut
  iintro ⟨H1, H2, H3, H4⟩
  iapply zip_all; isplitl [H1]; · iexact H1
  iapply zip_all; isplitl [H2]; · iexact H2
  iapply zip_all; isplitl [H3] <;> iassumption

/-- The slots of the two batches. -/
theorem preZ_split (c : Dev nD) : bigSep Finset.univ (preZ c) ⊢ (iprop(bigSep (seg 4 0) (preZ c) ∗ bigSep (seg 4 4) (preZ c)) : sProp 𝕄) :=
  Entails.of_eq ((congrArg (fun s => bigSep s (preZ (F := F) c)) seg_halves).trans (BI.bigSep_union seg_disjoint (Φ := preZ (F := F) c)))

theorem postZ_at (c : Dev nD) (k : Fin 8) : postZ c k ⊢ (iprop(postW RX c 1 k ∗ cred (tallyAt (dCell c 2 k) () N)) : sProp 𝕄) := by
  unfold postZ postW
  iintro ⟨A, B, C⟩
  isplitl [A B]; · isplitl [A] <;> iassumption
  iexact C

/-- The x-receives' counters and slots, and the z-sends' credit, out of the two batches' steps. -/
theorem postZ_split (c : Dev nD) :
    iprop(bigSep (seg 4 0) (postZ c) ∗ bigSep (seg 4 4) (postZ c))
      ⊢ (iprop(bigSep Finset.univ (postW RX c 1) ∗ bigSep Finset.univ (fun k => cred (tallyAt (dCell c 2 k) () N))) : sProp 𝕄) := by
  iintro H
  ihave H := (Entails.of_eq ((BI.bigSep_union seg_disjoint (Φ := postZ (F := F) c)).symm.trans (congrArg (fun s => bigSep s (postZ (F := F) c)) seg_halves.symm))) $$ H
  ihave H := (show bigSep Finset.univ (postZ (F := F) c) ⊢ (bigSep Finset.univ (fun k => iprop(postW RX c 1 k ∗ cred (tallyAt (dCell c 2 k) () N))) : sProp 𝕄) from
    bigSep_mono fun k _ => postZ_at c k) $$ H
  iapply unzip_all $$ H

/-! ## The barrier -/

/-- A signal of a partner's barrier. -/
theorem wp_sig (c d c' : Dev nD) (hd : d = c') (b : Bool) {O₁ : CellTallies nD τ sig Unit} (O : CellTallies nD τ sig Unit)
    (hO : O₁ = O + tallyAt (barCell c') () 1) (W : Waits sig Unit)
    {α : Type} {K : PUnit → Prog (TpuEff nD τ sig (Elt F) Λ₀ .tc) α} {Q : α → sProp 𝕄} :
    iprop(invs X Wt κ ∗ owes (c : Thread nD τ) O₁ W ∗ dutyTok ER (barCell c') 0 b ∗ barPay c' b ∗ reached ER (barCell c') 0)
      ⊢ iprop((owes (c : Thread nD τ) O W -∗ wp frame (wpE (defs₀ (F := F)) 𝒱₀ (c : Thread nD τ) none) Set.univ (K ⟨⟩) Q)
        -∗ wp frame (wpE (defs₀ (F := F)) 𝒱₀ (c : Thread nD τ) none) Set.univ (.op (.semSignal (d, .tc) barSem (1#32 : BitVec 32).toInt) K) Q) := by
  subst hd
  iintro ⟨#HI, HO, Ht, Hp, #Hr⟩ Hk
  iapply (Rounds.wp_signal 𝒱₀ ER (exRd X Wt) (c : Thread nD τ) none (dst := (d : Thread nD τ)) (sem := barSem) (r := 0) (d := b) (κ := κ (barCell d))
      (by rw [duties_bar]; exact Finset.mem_univ _) ((amount_bar X Wt d b).trans (by decide)) () O hO) $$ [HO Ht Hp]
  · isplitr; · iapply (inv_bar X Wt κ d); iexact HI
    isplitl [HO]; · iexact HO
    isplitl [Ht]; · iexact Ht
    isplitl [Hp]; · rw [payload_bar]; iexact Hp
    iexact Hr
  iexact Hk

/-- The wait for both partners: their landing slots come, and the cell gives its counter back. -/
theorem wp_both (c : Dev nD) (W : Waits sig Unit)
    {α : Type} {K : PUnit → Prog (TpuEff nD τ sig (Elt F) Λ₀ .tc) α} {Q : α → sProp 𝕄} :
    iprop(invs X Wt κ ∗ levAts L lv ∗ cred (tallyAt (barCell c) () 2) ∗ owes (c : Thread nD τ) (owed c 0 0) W ∗ atPos ER (barCell c) 0 ∅ 0)
      ⊢ iprop(((owes (c : Thread nD τ) (owed c 0 0) (insert (SemLoc.reg barSem, ()) W) ∗ semVal (barCell c) 0 ∗ landing RZ (pz c) 3 ∗ landing RX (px c) 1)
          -∗ wp frame (wpE (defs₀ (F := F)) 𝒱₀ (c : Thread nD τ) none) Set.univ (K ⟨⟩) Q)
        -∗ wp frame (wpE (defs₀ (F := F)) 𝒱₀ (c : Thread nD τ) none) Set.univ (.op (.semWait barSem (2#32 : BitVec 32).toInt) K) Q) := by
  iintro ⟨#HI, #Hlev, Hc, HO, Hat⟩ Hk
  iapply (Rounds.wp_wait_rest_token 𝒱₀ ER (exRd X Wt) (c : Thread nD τ) none (κ := κ (barCell c))
      (wpE_semWait_eq 𝒱₀ (c : Thread nD τ) none Set.univ) (Set.mem_univ _) () (O := owed c 0 0) (W := W) (R := 0) (m := 0) (T := ∅)
      (by rw [expect_bar]; decide)) $$ [Hc HO Hat]
  · isplitr; · iapply (inv_bar X Wt κ c); iexact HI
    isplitl [Hc]; · iexact Hc
    isplitl [HO]; · iexact HO
    isplitr; · iapply (mayWait_bar c 0 0); iexact Hlev
    iexact Hat
  iintro ⟨HO, Hat, -, Hpay⟩
  ihave Hp := (Entails.of_eq (rest_bar X Wt c)) $$ Hpay
  icases Hp with ⟨Hz, Hx⟩
  iapply fupd_wp
  imod (close X Wt (κ (barCell c)) (barCell c)) $$ [Hat] with Hb
  · isplitr; · iapply (inv_bar X Wt κ c); iexact HI
    iexact Hat
  imodintro
  iapply Hk
  isplitl [HO]; · iexact HO
  isplitl [Hb]; · iexact Hb
  isplitl [Hz] <;> iassumption

/-! ## The body -/

/-- A send slot is back, whatever it holds. -/
theorem sent_x (c : Dev nD) (k : Fin 8) : dmaPay X Wt c k 0 ⊢ (slotAny SX c k : sProp 𝕄) := by
  show slotOwn SX c k (chunk X Wt c k) ⊢ _
  unfold slotAny; iintro H; iexists (chunk X Wt c k); iexact H
theorem sent_z (c : Dev nD) (k : Fin 8) : dmaPay X Wt c k 2 ⊢ (slotAny SZ c k : sProp 𝕄) := by
  show slotOwn SZ c k (fin X Wt c k) ⊢ _
  unfold slotAny; iintro H; iexists (fin X Wt c k); iexact H

set_option maxHeartbeats 1000000 in
/-- The body, run on any device from its holdings of the protocol, ends with its result written and nothing owed. -/
theorem run_body (c : Dev nD) (Kt : PUnit → sProp 𝕄) :
    iprop(bodyPre X Wt κ c ∗ (bodyPost X Wt c -∗ Kt ⟨⟩))
      ⊢ wp frame (wpE (defs₀ (F := F)) 𝒱₀ (c : Thread nD τ) none) Set.univ theBody Kt := by
  unfold theBody bodyProg
  simp only [semSignalWord, semWaitWord, Prog.lift, Prog.bind_op, Prog.bind_ret, wp_deviceId]
  unfold bodyPre barIn owing
  iintro ⟨⟨⟨#HI, #Hlev⟩, ⟨Hat, ⟨#Rx, #Rz⟩, ⟨Tx, Tz⟩, Hc⟩, Hin, Hsr, ⟨Lx, Lz⟩, ⟨Ho, Hw, ⟨%f, Hout⟩⟩, ⟨%W, HO⟩⟩, Hk⟩
  iapply (wp_sig X Wt κ c (pxDev c) (px c) (pxDev_eq c) true (O₁ := O₀ c) (owed c 0 0 + tallyAt (barCell (pz c)) () 1) rfl W) $$ [HO Tx Lx]
  · isplitr; · iexact HI
    isplitl [HO]; · iexact HO
    isplitl [Tx]; · iexact Tx
    isplitl [Lx]; · unfold barPay; rw [px_px]; iexact Lx
    iexact Rx
  iintro HO
  iapply (wp_sig X Wt κ c (pzDev c) (pz c) (pzDev_eq c) false (O₁ := owed c 0 0 + tallyAt (barCell (pz c)) () 1) (owed c 0 0) rfl W) $$ [HO Tz Lz]
  · isplitr; · iexact HI
    isplitl [HO]; · iexact HO
    isplitl [Tz]; · iexact Tz
    isplitl [Lz]; · unfold barPay; rw [pz_pz]; iexact Lz
    iexact Rz
  iintro HO
  iapply (wp_both X Wt κ c W) $$ [Hc HO Hat]
  · isplitr; · iexact HI
    isplitr; · iexact Hlev
    isplitl [Hc]; · iexact Hc
    isplitl [HO] <;> iassumption
  iintro ⟨HO, Hb, Lz, Lx⟩
  ihave H := (slots_deal (F := F) c) $$ [Hin Hsr Lz Lx]
  · isplitl [Hin]; · iexact Hin
    isplitl [Hsr]; · iexact Hsr
    isplitl [Lx] <;> iassumption
  icases H with ⟨PX, PZ, PR, A0, A2⟩
  iapply (wp_load_rect 𝒱₀ (c : Thread nD τ) none Set.univ (m := WM) (r := Rect.unit (s := S512x1024) ![0, 0] S512x1024.size inb_S512x1024_S512x1024_0_0) (S := Finset.univ) (q := fullShare) (f := Wt c) (Finset.subset_univ _)) $$ Hw
  iintro Hw
  rw [wp_bind]
  iapply (wp_runs c _ (preX c) (postX c) (carryX X Wt κ c) 8 0 _ (fun k _ _ Kt => step_x X Wt κ c k Kt) _)
  isplitl [PX]; · rw [seg_all]; iexact PX
  isplitl [Ho HO]
  · unfold carryX owing
    isplitr; · iexact HI
    isplitl [Ho]; · iexact Ho
    iexists _; iexact HO
  rw [seg_all]
  unfold carryX owing
  iintro ⟨C0, ⟨-, Ho, ⟨%W1, HO⟩⟩⟩
  iapply (wp_load_rect 𝒱₀ (c : Thread nD τ) none Set.univ (m := OM) (r := mineRect c 0) (S := Finset.univ) (q := fullShare) (f := X c) (Finset.subset_univ _)) $$ Ho
  iintro Ho
  rw [wp_bind]
  ihave PZ := (preZ_split (F := F) c) $$ PZ
  icases PZ with ⟨PZ0, PZ1⟩
  iapply (wp_runs c _ (preZ c) (postZ c) (carryZ X Wt κ c) 4 0 _ (fun k _ hk Kt => step_z X Wt κ c k _ (by
    rw [show hi k = (0 : Fin 2) from Fin.ext (Nat.div_eq_of_lt hk)]; rfl) Kt) _)
  isplitl [PZ0]; · iexact PZ0
  isplitl [Hout HO]
  · unfold carryZ outUpTo owing
    isplitr; · iexact HI
    isplitr; · iexact Hlev
    isplitl [Hout]
    · iexists f; isplitr; · ipureintro; exact fun i h => absurd h (Nat.not_lt_zero _)
      iexact Hout
    iexists _; iexact HO
  iintro ⟨Z0, HZ⟩
  iapply (wp_load_rect 𝒱₀ (c : Thread nD τ) none Set.univ (m := OM) (r := mineRect c 1) (S := Finset.univ) (q := fullShare) (f := X c) (Finset.subset_univ _)) $$ Ho
  iintro Ho
  rw [wp_bind]
  iapply (wp_runs c _ (preZ c) (postZ c) (carryZ X Wt κ c) 4 4 _ (fun k hk hk' Kt => step_z X Wt κ c k _ (by
    rw [show hi k = (1 : Fin 2) from Fin.ext (by show k.val / 4 = 1; omega)]; rfl) Kt) _)
  isplitl [PZ1]; · iexact PZ1
  isplitl [HZ]; · iexact HZ
  unfold carryZ owing
  iintro ⟨Z1, ⟨-, -, Hout, ⟨%W2, HO⟩⟩⟩
  ihave Z := (postZ_split (F := F) c) $$ [Z0 Z1]
  · isplitl [Z0] <;> iassumption
  icases Z with ⟨QX, C2⟩
  rw [wp_bind]
  iapply (wp_runs c _ (preR c) (postR c) (carryR X Wt κ c) 8 0 _ (fun k _ _ Kt => step_r X Wt κ c k Kt) _)
  isplitl [PR]; · rw [seg_all]; iexact PR
  isplitl [Hout HO]
  · unfold carryR owing
    isplitr; · iexact HI
    isplitl [Hout]; · iexact Hout
    rw [owed_end]; iexists _; iexact HO
  rw [seg_all]
  unfold carryR owing
  iintro ⟨QZ, ⟨-, Hout, ⟨%W3, HO⟩⟩⟩
  rw [wp_bind]
  iapply (wp_runs c _ (preW c 0) (postW SX c 0) (carryW X Wt κ c) 8 0 _ (fun k _ _ Kt => step_w X Wt κ c 0 k SX RX (Memref.isWhole_whole _) (Memref.isWhole_whole _)
    (sent_x X Wt c k) Kt) _)
  isplitl [C0 A0]
  · rw [seg_all]; iapply (waits_deal c 0)
    isplitl [C0]; · unfold postX; iexact C0
    iexact A0
  isplitl [HO]
  · unfold carryW owing
    isplitr; · iexact HI
    iexists _; iexact HO
  iintro ⟨S0, HW⟩
  iapply (wp_runs c _ (preW c 2) (postW SZ c 2) (carryW X Wt κ c) 8 0 _ (fun k _ _ Kt => step_w X Wt κ c 2 k SZ RZ (Memref.isWhole_whole _) (Memref.isWhole_whole _)
    (sent_z X Wt c k) Kt) _)
  isplitl [C2 A2]
  · rw [seg_all]; iapply (waits_deal c 2)
    isplitl [C2] <;> iassumption
  isplitl [HW]; · iexact HW
  rw [seg_all]
  unfold carryW owing
  iintro ⟨S2, ⟨-, ⟨%W4, HO⟩⟩⟩
  unfold outUpTo
  icases Hout with ⟨%f', %hf, Hout⟩
  obtain rfl : f' = outAt X Wt c := funext fun i => hf i (turn_lt c i)
  iapply Hk
  unfold bodyPost owing
  isplitl [Hb]; · iexact Hb
  isplitl [S0 QX S2 QZ]
  · iapply (slots_collect (F := F) c)
    isplitl [S0]; · iexact S0
    isplitl [QX]; · iexact QX
    isplitl [S2]; · iexact S2
    iexact QZ
  isplitl [Ho Hw Hout]
  · isplitl [Ho]; · iexact Ho
    isplitl [Hw] <;> iassumption
  iexists _; iexact HO

end Cert.KernelIdeal

end
-- ==== Proof.Buffers.lean ====
/- The exchange buffers whole and slot by slot, and the counters of the four arrays of semaphores. -/
module

public import proofs.«01_k».proof.Proof.Run
public import Idealize.ShloMosaic.Lib.Ring

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## A buffer and its slots -/

/-- Different slots share no element, -/
theorem slotRect_disjoint (k j : Fin 8) (h : k ≠ j) : Disjoint (slotRect k).set (slotRect j).set :=
  Ring.lead_disjoint (s := S8x64x1024) (0 : Fin 3) 1 (fun b : Fin 8 => ![b.val, 0, 0]) S1x64x1024.size _ (fun b => (Nat.one_mul _).symm) rfl k j h

/-- and together they are the whole buffer. -/
theorem slotRect_cover : Finset.univ.biUnion (fun k : Fin 8 => (slotRect k).set) = Finset.univ :=
  Ring.lead_cover (s := S8x64x1024) (0 : Fin 3) 1 (fun b : Fin 8 => ![b.val, 0, 0]) S1x64x1024.size _ (fun b => (Nat.one_mul _).symm)
    (fun b a ha => by fin_cases a <;> first | exact absurd rfl ha | rfl) rfl
    (fun a ha => by fin_cases a <;> first | exact absurd rfl ha | rfl) rfl

section slots

variable (b : Memref sig .tc .vmem S8x64x1024 .bf16) (hb : b.IsWhole) (c : Dev nD)

/-- The elements of slot `k`, in the buffer that `b` is on. -/
abbrev slotSet (k : Fin 8) : Finset (Idx (b.view.loc (c : Thread nD τ))) := (b.access (slotRect k)).set

theorem slotSet_eq (k : Fin 8) : slotSet b c k = (slotRect k).set.map b.view.emb := View.set_slice _ _

theorem slot_disjoint (k j : Fin 8) (h : k ≠ j) : Disjoint (slotSet b c k) (slotSet b c j) := by
  rw [slotSet_eq, slotSet_eq]
  exact (Finset.disjoint_map _).mpr (slotRect_disjoint k j h)

include hb in
theorem slot_cover : Finset.univ.biUnion (slotSet b c) = Finset.univ := by
  ext i
  simp only [Finset.mem_biUnion, Finset.mem_univ, true_and, iff_true]
  obtain ⟨j, rfl⟩ := View.exists_emb_of_mem_set _ (show i ∈ b.view.set from hb.set_eq_univ ▸ Finset.mem_univ i)
  obtain ⟨k, -, hk⟩ := Finset.mem_biUnion.mp (slotRect_cover ▸ Finset.mem_univ j)
  exact ⟨k, by rw [slotSet_eq]; exact Finset.mem_map_of_mem _ hk⟩

theorem slotAny_intro (k : Fin 8) (f : Buf (Elt F) (b.view.loc (c : Thread nD τ))) :
    (b.view.loc (c : Thread nD τ) ↦[slotSet b c k]{fullShare} f) ⊢ (slotAny b c k : sProp 𝕄) := by
  unfold slotAny
  iintro H
  iexists (unlead ((b.access (slotRect k)).read (Elt F) f))
  iapply (slotOwn_intro b c k f _ (lead_unlead _).symm) $$ H

theorem slotAny_elim (k : Fin 8) : (slotAny b c k : sProp 𝕄)
    ⊢ iprop(∃ f : Buf (Elt F) (b.view.loc (c : Thread nD τ)), (b.view.loc (c : Thread nD τ) ↦[slotSet b c k]{fullShare} f)) := by
  unfold slotAny
  iintro ⟨%v, H⟩
  ihave H := (slotOwn_elim b c k v) $$ H
  icases H with ⟨%f, -, H⟩
  iexists f; iexact H

include hb in
/-- A buffer whole at some contents is its slots at some contents. -/
theorem slots_of_whole : iprop(∃ f : Buf (Elt F) (b.view.loc (c : Thread nD τ)), b.view.loc (c : Thread nD τ) ↦{fullShare} f)
    ⊢ (bigSep Finset.univ (slotAny b c) : sProp 𝕄) := by
  iintro ⟨%f, H⟩
  iapply (show (bigSep Finset.univ (fun k : Fin 8 => (b.view.loc (c : Thread nD τ) ↦[slotSet b c k]{fullShare} f)) : sProp 𝕄)
      ⊢ bigSep Finset.univ (slotAny b c) from bigSep_mono fun k _ => slotAny_intro b c k f)
  iapply (Entails.of_eq (Ring.pointsTo_blocks (slotSet b c) (slot_disjoint b c) (slot_cover b hb c) f)) $$ H

include hb in
/-- And back. -/
theorem whole_of_slots : bigSep Finset.univ (slotAny b c)
    ⊢ (iprop(∃ f : Buf (Elt F) (b.view.loc (c : Thread nD τ)), b.view.loc (c : Thread nD τ) ↦{fullShare} f) : sProp 𝕄) := by
  have f₀ : Buf (Elt F) (b.view.loc (c : Thread nD τ)) := fun _ => Classical.choice (Elt.nonempty F _)
  exact (show (bigSep Finset.univ (slotAny b c) : sProp 𝕄) ⊢ _ from bigSep_mono fun k _ => slotAny_elim b c k).trans
    (Ring.pointsTo_blocks_join_exists (slotSet b c) (slot_disjoint b c) (slot_cover b hb c) f₀)

end slots

end Cert.KernelIdeal

end
-- ==== Proof.BodyEq.lean ====
/- The printed kernel body is the loop form of it. -/
module

public import proofs.«01_k».proof.Proof.Prog
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal

open Idealize.ShloMosaic Idealize.ShloMosaic.TcCoe
open Idealize.SL.Sem
open Cert.KernelIdeal.Gen

variable {F : FTy → Type} [FloatOps F]

set_option maxHeartbeats 0 in
set_option maxRecDepth 100000 in
/-- The body the pipeline calls is the steps in order, on the staging and exchange buffers. -/
theorem body_eq (t : Fin cfg0.N) : bodyAt0 (F := F) t =
    bodyProg (Memref.whole cc0_stg0_0) (Memref.whole cc0_stg1_0) (Memref.whole cc0_stg2_0) (Memref.isWhole_whole _)
      (Memref.whole cc0_scratch0) (Memref.whole cc0_scratch1) (Memref.whole cc0_scratch2) (Memref.whole cc0_scratch3)
      (Memref.isWhole_whole _) (Memref.isWhole_whole _) (Memref.isWhole_whole _) (Memref.isWhole_whole _)
      cc0_scratch4 cc0_scratch5 cc0_scratch6 cc0_scratch7 := rfl

end Cert.KernelIdeal

end
-- ==== Proof.Region.lean ====
/- The kernel call as a segment of the program: its proof data, the body's obligation, and the record of the region. -/
module

public import proofs.«01_k».proof.Proof.Buffers
public import proofs.«01_k».proof.Proof.BodyEq
public import proofs.«01_k».proof.Proof.Gen.KernelIdeal.Frame

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

/-! ## The four arrays of semaphores, array by array or slot by slot -/

/-- The semaphores the kernel declares for itself. -/
def osem (p : Fin 4 × Fin 8) : SemLoc sig := .dma (dq p.1 p.2)

/-- A family over all the semaphores, slot by slot. -/
theorem by_slot (Φ : Fin 4 → Fin 8 → sProp 𝕄) : bigSep Finset.univ (fun p : Fin 4 × Fin 8 => Φ p.1 p.2)
    = bigSep Finset.univ (fun k : Fin 8 => iprop(Φ 0 k ∗ Φ 1 k ∗ Φ 2 k ∗ Φ 3 k)) := by
  rw [bigSep_univ_prod, bigSep_univ_eq_bigSepL [(0 : Fin 4), 1, 2, 3] (by decide) (by decide), bigSepL_cons_cons, bigSepL_cons_cons, bigSepL_cons_cons,
    bigSepL_singleton, bigSep_sep', bigSep_sep', bigSep_sep']
  rfl

theorem ownSems_eq (c : Dev nD) : (Pipeline.ownSems0 osem c : sProp 𝕄) = bigSep Finset.univ (fun p : Fin 4 × Fin 8 => semVal (dCell c p.1 p.2) 0) := rfl

theorem osem_facts : Pipeline.OwnSemFacts spec0 osem where
  isScoped p := by
    have : ∀ (a : Fin 4) (k : Fin 8), (SemLoc.dma (dq a k) : SemLoc sig).isScoped .tc = true := by decide
    exact this p.1 p.2
  inj p q h := by
    have := dq_inj (SemLoc.dma.inj h)
    exact Prod.ext this.1 this.2
  disj p w s := by
    have : ∀ (a : Fin 4) (k : Fin 8) (w : Fin 3) (s : Fin (spec0 w).nbuf), (SemLoc.dma (dq a k) : SemLoc sig) ≠ .dma ((spec0 w).sem s) := by decide
    exact this p.1 p.2 w s

/-! ## What enters the region -/

section Entry

variable (X : Dev nD → Vec F S2048x8x64 .bf16) (Wt : Dev nD → Vec F S512x1024 .bf16) (c : Dev nD)

/-- The tokens of the four duties of slot `k` that a device pays. -/
def tokIn (k : Fin 8) : sProp 𝕄 :=
  iprop(dutyTok ER (dCell c 0 k) 0 false ∗ dutyTok ER (dCell (px c) 1 k) 0 false ∗ dutyTok ER (dCell c 2 k) 0 false ∗ dutyTok ER (dCell (pz c) 3 k) 0 false)

/-- The credit of the two receives of slot `k`. -/
def credIn (k : Fin 8) : sProp 𝕄 := iprop(cred (tallyAt (dCell c 1 k) () N) ∗ cred (tallyAt (dCell c 3 k) () N))

/-- What the launch deals to a device for the protocol: the cells of its transfers not yet opened. -/
def dealt : sProp 𝕄 :=
  iprop((∃ κ, invs X Wt κ) ∗ barIn c ∗ bigSep Finset.univ (tokIn c) ∗ bigSep Finset.univ (credIn c)
    ∗ bigSep Finset.univ (fun p : Fin 4 × Fin 8 => openTok ER (dCell c p.1 p.2)))

/-- The same with the cells open: a position and the record of round 0 on each. -/
def opened : sProp 𝕄 :=
  iprop((∃ κ, invs X Wt κ) ∗ levAts L lv ∗ barIn c ∗ bigSep Finset.univ (tokIn c) ∗ bigSep Finset.univ (credIn c)
    ∗ bigSep Finset.univ (fun p : Fin 4 × Fin 8 => atPos ER (dCell c p.1 p.2) 0 ∅ 0)
    ∗ bigSep Finset.univ (fun p : Fin 4 × Fin 8 => reached ER (dCell c p.1 p.2) 0))

theorem open_one (κ : GSem nD τ sig → ℕ) (p : Fin 4 × Fin 8) :
    iprop(invs X Wt κ ∗ (openTok ER (dCell c p.1 p.2) ∗ semVal (dCell c p.1 p.2) 0))
      ⊢ (|={Set.univ}=> (atPos ER (dCell c p.1 p.2) 0 ∅ 0 ∗ reached ER (dCell c p.1 p.2) 0) : sProp 𝕄) := by
  iintro ⟨#HI, Ho, Hv⟩
  iapply (Rounds.cell_open ER (exRd X Wt) (g := dCell c p.1 p.2) (Set.mem_univ (κ (dCell c p.1 p.2))))
  isplitr; · iapply (inv_d X Wt κ c p.1 p.2); iexact HI
  isplitl [Ho] <;> iassumption

/-- Opening every transfer's cell, from its counter at zero. -/
theorem open_all : iprop(dealt X Wt c ∗ Pipeline.ownSems0 osem c ∗ levAts L lv) ⊢ (|={Set.univ}=> opened X Wt c : sProp 𝕄) := by
  unfold dealt opened
  rw [ownSems_eq]
  iintro ⟨⟨⟨%κ, #HI⟩, HB, HT, HC, Ho⟩, Hv, #HL⟩
  ihave H := zip_all $$ [Ho Hv]
  · isplitl [Ho]; · iexact Ho
    iexact Hv
  ihave H := (show iprop(invs X Wt κ ∗ bigSep Finset.univ (fun p : Fin 4 × Fin 8 => iprop(openTok ER (dCell c p.1 p.2) ∗ semVal (dCell c p.1 p.2) 0)))
      ⊢ (|={Set.univ}=> bigSep Finset.univ (fun p : Fin 4 × Fin 8 => iprop(atPos ER (dCell c p.1 p.2) 0 ∅ 0 ∗ reached ER (dCell c p.1 p.2) 0)) : sProp 𝕄) from
    (bigSep_with_persistent fun p _ => open_one X Wt c κ p).trans (bigSep_fupd _ _)) $$ [H]
  · isplitr; · iexact HI
    iexact H
  imod H with H
  ihave H := unzip_all $$ H; icases H with ⟨HA, HR⟩
  imodintro
  isplitr; · iexists κ; iexact HI
  isplitr; · iexact HL
  isplitl [HB]; · iexact HB
  isplitl [HT]; · iexact HT
  isplitl [HC]; · iexact HC
  isplitl [HA] <;> iassumption

/-- The four exchange buffers, slot by slot, at contents not chosen. -/
def slotsAll : sProp 𝕄 :=
  iprop(bigSep Finset.univ (slotAny SX c) ∗ bigSep Finset.univ (slotAny RX c) ∗ bigSep Finset.univ (slotAny SZ c) ∗ bigSep Finset.univ (slotAny RZ c))

theorem slotsAll_of_rest : (Pipeline.scopedRest (Ix := Unit) (Name := ℕ) (U := UU) (Lvl := ℕ) (Val := Elt F) spec0 c : sProp 𝕄) ⊢ slotsAll c := by
  rw [scopedRest0_eq]
  unfold slotsAll
  iintro ⟨H0, H1, H2, H3⟩
  isplitl [H0]; · iapply (slots_of_whole SX (Memref.isWhole_whole _) c) $$ H0
  isplitl [H1]; · iapply (slots_of_whole RX (Memref.isWhole_whole _) c) $$ H1
  isplitl [H2]; · iapply (slots_of_whole SZ (Memref.isWhole_whole _) c) $$ H2
  iapply (slots_of_whole RZ (Memref.isWhole_whole _) c) $$ H3

theorem rest_of_slotsAll : (slotsAll c : sProp 𝕄) ⊢ Pipeline.scopedRest (Ix := Unit) (Name := ℕ) (U := UU) (Lvl := ℕ) (Val := Elt F) spec0 c := by
  rw [scopedRest0_eq]
  unfold slotsAll
  iintro ⟨H0, H1, H2, H3⟩
  isplitl [H0]; · iapply (whole_of_slots SX (Memref.isWhole_whole _) c) $$ H0
  isplitl [H1]; · iapply (whole_of_slots RX (Memref.isWhole_whole _) c) $$ H1
  isplitl [H2]; · iapply (whole_of_slots SZ (Memref.isWhole_whole _) c) $$ H2
  iapply (whole_of_slots RZ (Memref.isWhole_whole _) c) $$ H3

theorem slotIn_zip : iprop((bigSep Finset.univ (slotAny SX c) ∗ bigSep Finset.univ (slotAny SZ c)) ∗ bigSep Finset.univ (tokIn c)
      ∗ bigSep Finset.univ (fun p : Fin 4 × Fin 8 => atPos ER (dCell c p.1 p.2) 0 ∅ 0) ∗ bigSep Finset.univ (credIn c))
    ⊢ (bigSep Finset.univ (slotIn c) : sProp 𝕄) := by
  rw [by_slot (fun a k => atPos ER (dCell c a k) 0 ∅ 0), ← bigSep_sep', ← bigSep_sep', ← bigSep_sep', ← bigSep_sep']
  exact BI.Entails.refl _

theorem reached_deal_one (k : Fin 8) :
    iprop(reached ER (dCell c 0 k) 0 ∗ reached ER (dCell c 1 k) 0 ∗ reached ER (dCell c 2 k) 0 ∗ reached ER (dCell c 3 k) 0)
      ⊢ (iprop(sendsReached c k ∗ reached ER (dCell c 1 k) 0 ∗ reached ER (dCell c 3 k) 0) : sProp 𝕄) := by
  unfold sendsReached
  iintro ⟨H0, H1, H2, H3⟩
  isplitl [H0 H2]
  · isplitl [H0]; · iexact H0
    iexact H2
  isplitl [H1]; · iexact H1
  iexact H3

theorem reached_deal : (bigSep Finset.univ (fun p : Fin 4 × Fin 8 => reached ER (dCell c p.1 p.2) 0) : sProp 𝕄)
    ⊢ iprop(bigSep Finset.univ (sendsReached c) ∗ bigSep Finset.univ (fun k => reached ER (dCell c 1 k) 0) ∗ bigSep Finset.univ (fun k => reached ER (dCell c 3 k) 0)) := by
  rw [by_slot (fun a k => reached ER (dCell c a k) 0), ← bigSep_sep', ← bigSep_sep']
  exact bigSep_mono fun k _ => reached_deal_one c k

/-- What the body's run takes, but for the staging buffers and what is owed. -/
theorem enter : iprop(opened X Wt c ∗ slotsAll c)
    ⊢ (iprop(∃ κ, (invs X Wt κ ∗ levAts L lv) ∗ barIn c ∗ bigSep Finset.univ (slotIn c) ∗ bigSep Finset.univ (sendsReached c)
      ∗ (landing RX c 1 ∗ landing RZ c 3)) : sProp 𝕄) := by
  unfold opened slotsAll landing
  iintro ⟨⟨⟨%κ, HI⟩, HL, HB, HT, HC, HA, HR⟩, H0, H1, H2, H3⟩
  ihave HR := (reached_deal c) $$ HR
  icases HR with ⟨HS, R1, R3⟩
  iexists κ
  isplitl [HI HL]; · isplitl [HI] <;> iassumption
  isplitl [HB]; · iexact HB
  isplitl [H0 H2 HT HA HC]
  · iapply (slotIn_zip c)
    isplitl [H0 H2]; · isplitl [H0] <;> iassumption
    isplitl [HT]; · iexact HT
    isplitl [HA] <;> iassumption
  isplitl [HS]; · iexact HS
  isplitl [H1 R1]
  · iapply zip_all
    isplitl [H1]; · iexact H1
    iexact R1
  iapply zip_all
  isplitl [H3]; · iexact H3
  iexact R3

theorem leave_one (k : Fin 8) : (slotOut c k : sProp 𝕄)
    ⊢ iprop((semVal (dCell c 0 k) 0 ∗ semVal (dCell c 1 k) 0 ∗ semVal (dCell c 2 k) 0 ∗ semVal (dCell c 3 k) 0)
      ∗ slotAny SX c k ∗ slotAny RX c k ∗ slotAny SZ c k ∗ slotAny RZ c k) := by
  unfold slotOut postW
  iintro ⟨⟨V0, S0⟩, ⟨V1, S1⟩, ⟨V2, S2⟩, V3, S3⟩
  isplitl [V0 V1 V2 V3]
  · isplitl [V0]; · iexact V0
    isplitl [V1]; · iexact V1
    isplitl [V2] <;> iassumption
  isplitl [S0]; · iexact S0
  isplitl [S1]; · iexact S1
  isplitl [S2] <;> iassumption

/-- The slots and the counters at the end of the body. -/
theorem leave : (bigSep Finset.univ (slotOut c) : sProp 𝕄)
    ⊢ iprop(bigSep Finset.univ (fun p : Fin 4 × Fin 8 => semVal (dCell c p.1 p.2) 0) ∗ slotsAll c) := by
  unfold slotsAll
  rw [by_slot (fun a k => semVal (dCell c a k) 0), ← bigSep_sep', ← bigSep_sep', ← bigSep_sep', ← bigSep_sep']
  exact bigSep_mono fun k _ => leave_one c k

end Entry

/-! ## The proof data of the pipeline -/

section Data

variable (m : (ℓ : Loc nD τ sig) → Buf (Elt F) ℓ)

/-- What the devices hold of the activations and of the weights when the kernel is called. -/
def Xof (c : Dev nD) : Vec F S2048x8x64 .bf16 := iblk m c 0 t0_0
def Wof (c : Dev nD) : Vec F S512x1024 .bf16 := iblk m c 1 t0_0

/-- The body's invariant: before the one point, the protocol's holdings and the exchange buffers; after it, the counters at zero and the
    buffers. -/
def inv0 (c : Dev nD) : sProp 𝕄 := iprop(opened (Xof m) (Wof m) c ∗ slotsAll c ∗ ∃ r, prngReg c r)
def inv1 (c : Dev nD) : sProp 𝕄 :=
  iprop(semVal (barCell c) 0 ∗ bigSep Finset.univ (fun p : Fin 4 × Fin 8 => semVal (dCell c p.1 p.2) 0) ∗ slotsAll c ∗ ∃ r, prngReg c r)

def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => outAt (Xof m) (Wof m) c
  Φ t := if t.val = 0 then inv0 m c else inv1 c
  q _ := fullShare
  owed t := if t.val = 0 then O₀ c else 0

abbrev adm : (p : Fin 1) → (pcfgs (F := F) p).Adm := fun p => (cfgs p).toPCfg_adm
def pdats (_ : Fin 1) (c : Dev nD) : Dat τ (Elt F) Unit ℕ UU ℕ cfg0 c := dat m c

variable (c : Dev nD)

theorem A_eq (w : Fin cfg0.W) : (dat m c).A w = V m c (Pipeline.arrRef spec0 w) := by dsimp only [dat]
theorem after_0 (t : Fin cfg0.N) : (dat m c).after 0 t = iblk m c 0 t := by dsimp only [dat]
theorem after_1 (t : Fin cfg0.N) : (dat m c).after 1 t = iblk m c 1 t := by dsimp only [dat]
theorem after_2 (t : Fin cfg0.N) : (dat m c).after 2 t = outAt (Xof m) (Wof m) c := by dsimp only [dat]

theorem before_0 (t : Fin cfg0.N) (d) : (dat m c).before 0 t d = iblk m c 0 t :=
  ((dat m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg0.N) (d) : (dat m c).before 1 t d = iblk m c 1 t :=
  ((dat m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

theorem inv_first : (dat m c).Φ t0_0.castSucc = inv0 m c := by
  dsimp only [dat]; rw [if_pos (show (t0_0.castSucc : Fin (cfg0.N + 1)).val = 0 from rfl)]
theorem inv_last : (dat m c).Φ t0_0.succ = inv1 c := by
  dsimp only [dat]; rw [if_neg (show ¬(t0_0.succ : Fin (cfg0.N + 1)).val = 0 from Nat.succ_ne_zero _)]
theorem owed_first : (dat m c).owed t0_0.castSucc = O₀ c := by
  dsimp only [dat]; rw [if_pos (show (t0_0.castSucc : Fin (cfg0.N + 1)).val = 0 from rfl)]
theorem owed_last : (dat m c).owed t0_0.succ = 0 := by
  dsimp only [dat]; rw [if_neg (show ¬(t0_0.succ : Fin (cfg0.N + 1)).val = 0 from Nat.succ_ne_zero _)]

theorem owesAt_of (t : Fin (cfg0.N + 1)) (O : CellTallies nD τ sig Unit) (h : (dat m c).owed t = O) :
    (owing c O : sProp 𝕄) ⊢ (dat m c).owesAt () t := by
  unfold owing Dat.owesAt Pipeline.owesWithin Dat.bound
  rw [h]
  iintro ⟨%W, H⟩
  iexists W
  isplitr; · ipureintro; exact fun _ _ => Or.inl trivial
  iexact H
theorem of_owesAt (t : Fin (cfg0.N + 1)) (O : CellTallies nD τ sig Unit) (h : (dat m c).owed t = O) :
    (dat m c).owesAt () t ⊢ (owing c O : sProp 𝕄) := by
  unfold owing Dat.owesAt Pipeline.owesWithin
  rw [h]
  iintro ⟨%W, -, H⟩
  iexists W
  iexact H

/-- The body at its one point, window by window. -/
def ptPre : sProp 𝕄 :=
  iprop(inv0 m c ∗ (dat m c).owesAt () t0_0.castSucc
    ∗ (∃ d, owns (c : Thread nD τ) OM fullShare ((dat m c).before 0 t0_0 d))
    ∗ (∃ d, owns (c : Thread nD τ) WM fullShare ((dat m c).before 1 t0_0 d))
    ∗ (∃ d, owns (c : Thread nD τ) TM fullShare ((dat m c).before 2 t0_0 d)))
def ptPost : sProp 𝕄 :=
  iprop(inv1 c ∗ (dat m c).owesAt () t0_0.succ
    ∗ owns (c : Thread nD τ) OM fullShare ((dat m c).after 0 t0_0)
    ∗ owns (c : Thread nD τ) WM fullShare ((dat m c).after 1 t0_0)
    ∗ owns (c : Thread nD τ) TM fullShare ((dat m c).after 2 t0_0))

/-- The body at the pipeline's one point. -/
theorem pt_body : ptPre m c ⊢ wp frame (wpE (defs₀ (F := F)) 𝒱₀ (c : Thread nD τ) none) Set.univ theBody (fun _ => ptPost m c) := by
  unfold ptPre ptPost inv0 inv1
  simp only [show ∀ d, (dat m c).before 0 t0_0 d = Xof m c from fun d => before_0 m c t0_0 d, show ∀ d, (dat m c).before 1 t0_0 d = Wof m c from fun d => before_1 m c t0_0 d,
    show (dat m c).after 0 t0_0 = Xof m c from after_0 m c t0_0, show (dat m c).after 1 t0_0 = Wof m c from after_1 m c t0_0, after_2]
  iintro ⟨⟨Ho, Hs, Hp⟩, HO, ⟨%d0, H0⟩, ⟨%d1, H1⟩, ⟨%d2, H2⟩⟩
  ihave HE := (enter (Xof m) (Wof m) c) $$ [Ho Hs]
  · isplitl [Ho] <;> iassumption
  icases HE with ⟨%κ, HI, HB, HS, HR, HL⟩
  iapply (run_body (Xof m) (Wof m) κ c _)
  isplitl [HI HB HS HR HL HO H0 H1 H2]
  · unfold bodyPre
    isplitl [HI]; · iexact HI
    isplitl [HB]; · iexact HB
    isplitl [HS]; · iexact HS
    isplitl [HR]; · iexact HR
    isplitl [HL]; · iexact HL
    isplitl [H0 H1 H2]
    · isplitl [H0]; · iapply (Entails.of_eq (owns_whole (c : Thread nD τ) cc0_stg0_0 fullShare (Xof m c))) $$ H0
      isplitl [H1]; · iapply (Entails.of_eq (owns_whole (c : Thread nD τ) cc0_stg1_0 fullShare (Wof m c))) $$ H1
      iexists ((dat m c).before 2 t0_0 d2)
      iapply (Entails.of_eq (owns_whole (c : Thread nD τ) cc0_stg2_0 fullShare _)) $$ H2
    iapply (of_owesAt m c _ (O₀ c) (owed_first m c)) $$ HO
  unfold bodyPost
  iintro ⟨Hb, HS, ⟨H0, H1, H2⟩, HO⟩
  ihave HS := (leave c) $$ HS
  icases HS with ⟨Hv, Hs⟩
  isplitl [Hb Hv Hs Hp]
  · isplitl [Hb]; · iexact Hb
    isplitl [Hv]; · iexact Hv
    isplitl [Hs]; · iexact Hs
    iexact Hp
  isplitl [HO]; · iapply (owesAt_of m c t0_0.succ 0 (owed_last m c)) $$ HO
  isplitl [H0]; · iapply (Entails.of_eq (owns_whole (c : Thread nD τ) cc0_stg0_0 fullShare (Xof m c)).symm) $$ H0
  isplitl [H1]; · iapply (Entails.of_eq (owns_whole (c : Thread nD τ) cc0_stg1_0 fullShare (Wof m c)).symm) $$ H1
  iapply (Entails.of_eq (owns_whole (c : Thread nD τ) cc0_stg2_0 fullShare (outAt (Xof m) (Wof m) c)).symm) $$ H2

theorem defs₀_at (t : Fin cfg0.N) : defs₀ (F := F) .tc cfg0.body (cfg0.bodyArgs t (cfg0.slots t)) = bodyAt0 t := by
  unfold defs₀; rw [Defs.onTc_tc]

/-- The pipeline's obligation on the body. -/
theorem body_obligation : BodyObligation (dat m c) (defs₀ (F := F)) 𝒱₀ () Set.univ := fun t => by
  obtain rfl := fin_N0 t
  rw [bigSep_W0, bigSep_W0, defs₀_at, body_eq, inv_first, inv_last]
  exact triple_restated (pt_body m c) rfl .rfl fun _ => .rfl

end Data

end Cert.KernelIdeal

end
-- ==== Proof.Segs.lean ====
/- The program as three segments: a reshape, the kernel call, a reshape. -/
module

public import proofs.«01_k».proof.Proof.Region
public import Idealize.ShloMosaic.Lib.Pipeline.RegionTalk

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-! ## The contents of the buffers along the program -/

/-- The unscoped buffers that are no window's array. -/
def others : Finset (DevRef τ sig) := Pipeline.ucRefs τ sig \ Pipeline.arrRefs (τ := τ) spec0

/-- At launch; when the call is entered; when it is left; at the end. -/
def Vstart (c : Dev nD) : Valuation τ sig (Elt F) := fun b => m (c, b)
def Vcall (c : Dev nD) : Valuation τ sig (Elt F) := StableHlo.after hostOps0 (Vstart m c)
def Vback (c : Dev nD) : Valuation τ sig (Elt F) := Pipeline.withArrays spec0 c (Vcall m c) (fun w => (dat m c).arrAt w cfg0.N)
def Vend (c : Dev nD) : Valuation τ sig (Elt F) := StableHlo.after hostOps1 (Vback m c)

theorem Vcall_eq (c : Dev nD) : Vcall m c = V0 m c := rfl

theorem arrs_sub : Pipeline.arrRefs (τ := τ) spec0 ⊆ Pipeline.ucRefs τ sig := Pipeline.arrRefs_sub_ucRefs spec0 winFacts0.arr_unscoped

theorem back_others (c : Dev nD) (b : DevRef τ sig) (hb : b ∈ others \ ∅) : Vback m c b = Vcall m c b := by
  have hb' := (Finset.mem_sdiff.mp (Finset.mem_sdiff.mp hb).1)
  have ht : b ∈ StableHlo.tcRefs τ sig := (Finset.mem_filter.mp hb'.1).1
  obtain ⟨r, -, rfl⟩ := Finset.mem_map.mp ht
  refine Pipeline.withArrays_of_ne spec0 c _ _ r fun w e => hb'.2 ?_
  exact Finset.mem_map.mpr ⟨r, Finset.mem_image.mpr ⟨w, Finset.mem_univ w, e⟩, rfl⟩

/-- When the call is left each window's array holds what the pipeline wrote. -/
theorem back_arr (c : Dev nD) (w : Fin cfg0.W) : (dat m c).arrAt w cfg0.N = Vback m c (Proc.devRef .tc (Pipeline.arrRef spec0 w)) :=
  (Pipeline.withArrays_arr spec0 winFacts0.arr_inj c (Vcall m c) (fun w => (dat m c).arrAt w cfg0.N) w).symm

/-! ## What rides along -/

/-- Beside the buffers up to the call: what the launch dealt, the generator's register, and what the device owes. -/
def before (c : Dev nD) : sProp 𝕄 := iprop(dealt (Xof m) (Wof m) c ∗ (∃ r, prngReg c r) ∗ owing c (O₀ c))
/-- Beside the buffers after it: the barrier's counter at zero, and nothing owed. -/
def after (c : Dev nD) : sProp 𝕄 := iprop(semVal (barCell c) 0 ∗ owing c 0)

/-! ## The call -/

theorem inv_enter (c : Dev nD) :
    iprop(Pipeline.scopedRest spec0 c ∗ (∃ r, prngReg c r) ∗ StableHlo.held (c.tc : Thread nD τ) ∅ (Vcall m c) ∗ opened (Xof m) (Wof m) c)
      ⊢ ((dat m c).Φ 0 : sProp 𝕄) := by
  rw [show (dat m c).Φ 0 = inv0 m c from inv_first m c]
  unfold inv0
  iintro ⟨Hs, Hp, -, Ho⟩
  isplitl [Ho]; · iexact Ho
  isplitl [Hs]; · iapply (slotsAll_of_rest c) $$ Hs
  iexact Hp

theorem inv_leave (c : Dev nD) :
    ((dat m c).Φ (Fin.last cfg0.N) : sProp 𝕄)
      ⊢ iprop(Pipeline.scopedRest spec0 c ∗ (∃ r, prngReg c r) ∗ StableHlo.held (c.tc : Thread nD τ) ∅ (Vback m c) ∗ Pipeline.ownSems0 osem c
        ∗ semVal (barCell c) 0) := by
  rw [show (dat m c).Φ (Fin.last cfg0.N) = inv1 c from inv_last m c, ownSems_eq]
  unfold inv1 StableHlo.held
  rw [bigSep_empty]
  iintro ⟨Hb, Hv, Hs, Hp⟩
  isplitl [Hs]; · iapply (rest_of_slotsAll c) $$ Hs
  isplitl [Hp]; · iexact Hp
  isplitr; · iempintro
  isplitl [Hv]; · iexact Hv
  iexact Hb

theorem cut_owed (c : Dev nD) (t : Fin (cfg0.N + 1)) (g : GSem nD τ sig) (i : Unit) (h : 0 < (dat m c).owed t g i) : i ∈ L g ∧ 0 < lv g i := by
  by_cases ht : t.val = 0
  · have e : (dat m c).owed t = O₀ c := by dsimp only [dat]; rw [if_pos ht]
    rw [e] at h
    have key : ∀ (d : Dev nD) (a : Fin 4) (j : Fin 8), (a = 1 ∨ a = 3) → g = dCell d a j → i ∈ L g ∧ 0 < lv g i := by
      rintro d a j ha rfl
      refine ⟨by rw [L_tc]; exact Finset.mem_singleton_self _, ?_⟩
      rw [lv_dma]
      rcases ha with rfl | rfl <;> decide
    have kbar : ∀ d : Dev nD, g = barCell d → i ∈ L g ∧ 0 < lv g i := by
      rintro d rfl
      exact ⟨by rw [L_tc]; exact Finset.mem_singleton_self _, by rw [lv_bar]; decide⟩
    rcases O₀_pos h with h | h | h
    · rcases owed_pos h with h | h
      · obtain ⟨j, hj⟩ := restOwed_pos h; exact key _ _ j (.inl rfl) hj
      · obtain ⟨j, hj⟩ := restOwed_pos h; exact key _ _ j (.inr rfl) hj
    · exact kbar _ h
    · exact kbar _ h
  · have e : (dat m c).owed t = 0 := by dsimp only [dat]; rw [if_neg ht]
    rw [e] at h
    exact absurd h (Nat.lt_irrefl 0)

theorem staging_level : ∀ (w : Fin cfg0.W) (s : Fin (cfg0.win w).nbuf), ((cfg0.win w).sem s).val < 11 := by decide

theorem staging_low (c : Dev nD) (w : Fin cfg0.W) (s : Fin (cfg0.win w).nbuf) : lv ((c : Thread nD τ), .dma ((cfg0.win w).sem s)) () ≤ 0 := by
  show (if ((cfg0.win w).sem s).val < 11 then 0 else if ((cfg0.win w).sem s).val < 19 then 2 else if ((cfg0.win w).sem s).val < 27 then 0 else 3) ≤ 0
  rw [if_pos (staging_level w s)]

set_option backward.isDefEq.respectTransparency.types false in
/-- The kernel call, entered with what the launch dealt, left with the barrier's counter at zero and nothing owed. -/
def call : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) launch0.toP rfl (fun c => (body_obligation m c).loose)
    (fun _ => 0) O₀ (fun c => (owed_first m c).trans (zero_add _).symm) (fun c => owed_last m c) (fun _ => rfl)
    (fun c w => (dat m c).share_full (fun _ => rfl) w)
    (Vcall m) (Vback m) (fun c b hb => back_others m c b hb)
    (dealt (Xof m) (Wof m)) (fun c => semVal (barCell c) 0) (opened (Xof m) (Wof m)) (fun c => semVal (barCell c) 0)
    (open_all (Xof m) (Wof m)) (inv_enter m) (inv_leave m)
    (fun c => by iintro H; imodintro; iexact H)
    (fun _ => 0)
    ⟨fun c w s => by rw [L_tc]; exact Finset.mem_singleton_self _, fun c w s => staging_low c w s, fun c t g i h => cut_owed m c t g i h⟩
    (fun _ => iprop(emp))
    (fun c w => A_eq m c w) (fun c w => back_arr m c w)

theorem call_pre (c : Dev nD) : iprop(StableHlo.held (c : Thread nD τ) (Pipeline.ucRefs τ sig) (Vcall m c) ∗ before m c) ⊢ (call m).pre c := by
  show _ ⊢ iprop(StableHlo.held (c.tc : Thread nD τ) (Pipeline.arrRefs (τ := τ) spec0) (Vcall m c) ∗ (∃ r, prngReg c r)
    ∗ (StableHlo.held (c.tc : Thread nD τ) others (Vcall m c) ∗ emp) ∗ dealt (Xof m) (Wof m) c ∗ ∃ Wd, owes (c : Thread nD τ) (0 + O₀ c) Wd)
  rw [StableHlo.held_sub_split (c : Thread nD τ) arrs_sub (Vcall m c), zero_add]
  unfold before others owing
  iintro ⟨⟨Ha, Hr⟩, HD, Hp, HO⟩
  isplitl [Ha]; · iexact Ha
  isplitl [Hp]; · iexact Hp
  isplitl [Hr]
  · isplitl [Hr]; · iexact Hr
    iempintro
  isplitl [HD]; · iexact HD
  iexact HO

theorem call_post (c : Dev nD) : (call m).post c ⊢ iprop(StableHlo.held (c : Thread nD τ) (Pipeline.ucRefs τ sig) (Vback m c) ∗ after c) := by
  show iprop(StableHlo.held (c.tc : Thread nD τ) (Pipeline.arrRefs (τ := τ) spec0) (Vback m c) ∗ (∃ r, prngReg c r)
    ∗ (StableHlo.held (c.tc : Thread nD τ) others (Vback m c) ∗ emp) ∗ semVal (barCell c) 0 ∗ ∃ Wd, owes (c : Thread nD τ) (0 : CellTallies nD τ sig Unit) Wd) ⊢ _
  rw [StableHlo.held_sub_split (c : Thread nD τ) arrs_sub (Vback m c)]
  unfold after others owing
  iintro ⟨Ha, -, ⟨Hr, -⟩, Hb, HO⟩
  isplitl [Ha Hr]
  · isplitl [Ha]; · iexact Ha
    iexact Hr
  isplitl [Hb]; · iexact Hb
  iexact HO

/-! ## The reshapes, and the list -/

theorem ops0_in : ∀ op ∈ (hostOps0 : List (HloOp τ sig (Elt F))), op.bufs ⊆ Pipeline.ucRefs τ sig := fun op h =>
  Pipeline.sub_ucRefs op ((List.forall_iff_forall_mem.mp hostOps0_sub) op h)
theorem ops1_in : ∀ op ∈ (hostOps1 : List (HloOp τ sig (Elt F))), op.bufs ⊆ Pipeline.ucRefs τ sig := fun op h =>
  Pipeline.sub_ucRefs op ((List.forall_iff_forall_mem.mp hostOps1_sub) op h)

def flatten : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0 ops0_in (List.forall_iff_forall_mem.mp hostOps0_fresh) (Vstart m) (before m)
def spread : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps1 ops1_in (List.forall_iff_forall_mem.mp hostOps1_fresh) (Vback m) after

def segs : List (Pipeline.Seg (pcfgs (F := F)) adm (pdats m) () defs₀ 𝒱₀ L lv) := [.host (flatten m), .region (call m), .host (spread m)]

/-- The host program is its three segments. -/
theorem main_eq (c : Dev nD) : main (F := F) c = Pipeline.Seg.run (segs m) :=
  main_segs adm (pdats m) () 𝒱₀ L lv (flatten m) (spread m) (call m) rfl rfl c

/-! ## The ends -/

/-- The activations end as they began. -/
theorem end_arg0 (c : Dev nD) : Vend m c (Proc.devRef .tc main_arg0) = m ((c : Thread nD τ).loc main_arg0) := by
  unfold Vend Vback
  rw [StableHlo.after_cons, StableHlo.after_nil, StableHlo.reshape_result_ne _ _ _ _ _ _ _ (by decide),
    Pipeline.withArrays_of_ne _ c _ _ main_arg0 (by exact (by decide : ∀ w, Pipeline.arrRef spec0 w ≠ main_arg0))]
  exact V_main_arg0 m c

/-- So do the weights. -/
theorem end_arg1 (c : Dev nD) : Vend m c (Proc.devRef .tc main_arg1) = m ((c : Thread nD τ).loc main_arg1) := by
  unfold Vend
  rw [StableHlo.after_cons, StableHlo.after_nil, StableHlo.reshape_result_ne _ _ _ _ _ _ _ (by decide)]
  refine (back_arr m c 1).symm.trans (((dat m c).arrAt_in 1 rfl _).trans ?_)
  exact (A_eq m c 1).trans (V_main_arg1 m c)

end Cert.KernelIdeal

end
-- ==== Proof.Launch.lean ====
/- The launch: what the machine starts with, dealt to the devices; and the run of the whole program. -/
module

public import proofs.«01_k».proof.Proof.Segs

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

/-! ## The tokens of the duties -/

/-- The duties of the barrier cells, then those of the transfers' cells. -/
def dutyOf : Dev nD × (Bool ⊕ Fin 4 × Fin 8) → GSem nD τ sig × ℕ × Bool
  | (c, .inl d) => (barCell c, 0, d)
  | (c, .inr p) => (dCell c p.1 p.2, 0, false)

theorem dutyOf_inj : Function.Injective dutyOf := by
  rintro ⟨c, d | p⟩ ⟨c', d' | p'⟩ h
  · have h1 : c = c' := congrArg (fun x : GSem nD τ sig × ℕ × Bool => x.1.1.1) h
    have h2 : d = d' := congrArg (fun x : GSem nD τ sig × ℕ × Bool => x.2.2) h
    rw [h1, h2]
  · exact absurd (congrArg (fun x : GSem nD τ sig × ℕ × Bool => x.1.2) h).symm (dma_ne_bar _)
  · exact absurd (congrArg (fun x : GSem nD τ sig × ℕ × Bool => x.1.2) h) (dma_ne_bar _)
  · have h1 := dCell_inj (c, p) (c', p') (congrArg Prod.fst h)
    rw [Prod.ext_iff] at h1
    obtain ⟨h1, h2⟩ := h1
    dsimp only at h1 h2
    rw [h1, h2]

def duties : Finset (GSem nD τ sig × ℕ × Bool) := Finset.univ.map ⟨dutyOf, dutyOf_inj⟩

theorem sum_split (Φ : Bool ⊕ Fin 4 × Fin 8 → sProp 𝕄) :
    bigSep Finset.univ Φ = iprop((Φ (.inl true) ∗ Φ (.inl false)) ∗ bigSep Finset.univ (fun p => Φ (.inr p))) := by
  have e : (Finset.univ : Finset (Bool ⊕ Fin 4 × Fin 8)) = {.inl true, .inl false} ∪ Finset.univ.map ⟨Sum.inr, Sum.inr_injective⟩ := by
    ext x
    rcases x with (d | p)
    · cases d <;> simp
    · simp
  have hd : Disjoint ({.inl true, .inl false} : Finset (Bool ⊕ Fin 4 × Fin 8)) (Finset.univ.map ⟨Sum.inr, Sum.inr_injective⟩) := by
    rw [Finset.disjoint_left]
    rintro x h₁ h₂
    obtain ⟨p, -, rfl⟩ := Finset.mem_map.mp h₂
    simp at h₁
  rw [e, bigSep_union hd, bigSep_map, bigSep_insert (by decide), bigSep_singleton]
  rfl

/-- Every token with the device that pays the duty. -/
theorem tokens_dealt : (bigSep duties (fun x => dutyTok ER x.1 x.2.1 x.2.2) : sProp 𝕄)
    = bigSep Finset.univ (fun c : Dev nD => iprop((dutyTok ER (barCell (px c)) 0 true ∗ dutyTok ER (barCell (pz c)) 0 false) ∗ bigSep Finset.univ (tokIn c))) := by
  unfold duties tokIn
  rw [bigSep_map, bigSep_univ_prod]
  simp only [sum_split]
  refine (bigSep_congr (Ψ := fun c : Dev nD => (iprop((dutyTok ER (barCell c) 0 true ∗ dutyTok ER (barCell c) 0 false)
        ∗ bigSep Finset.univ (fun k : Fin 8 => dutyTok ER (dCell c 0 k) 0 false) ∗ bigSep Finset.univ (fun k : Fin 8 => dutyTok ER (dCell c 1 k) 0 false)
        ∗ bigSep Finset.univ (fun k : Fin 8 => dutyTok ER (dCell c 2 k) 0 false) ∗ bigSep Finset.univ (fun k : Fin 8 => dutyTok ER (dCell c 3 k) 0 false)) : sProp 𝕄))
    fun c _ => ?_).trans ?_
  · show iprop((dutyTok ER (barCell c) 0 true ∗ dutyTok ER (barCell c) 0 false)
        ∗ bigSep Finset.univ (fun p : Fin 4 × Fin 8 => dutyTok ER (dCell c p.1 p.2) 0 false)) = _
    rw [by_slot (fun a k => dutyTok ER (dCell c a k) 0 false), bigSep_sep', bigSep_sep', bigSep_sep']
  simp only [bigSep_sep']
  rw [bigSep_univ_equiv swapX (fun c : Dev nD => (dutyTok ER (barCell c) 0 true : sProp 𝕄)),
    bigSep_univ_equiv swapZ (fun c : Dev nD => (dutyTok ER (barCell c) 0 false : sProp 𝕄)),
    bigSep_univ_equiv swapX (fun c : Dev nD => (bigSep Finset.univ (fun k : Fin 8 => dutyTok ER (dCell c 1 k) 0 false) : sProp 𝕄)),
    bigSep_univ_equiv swapZ (fun c : Dev nD => (bigSep Finset.univ (fun k : Fin 8 => dutyTok ER (dCell c 3 k) 0 false) : sProp 𝕄))]
  rfl

/-! ## The credit of the launch -/

theorem restOwed_all (c' : Dev nD) (a : Fin 4) : restOwed c' a 0 = ∑ j : Fin 8, tallyAt (dCell c' a j) () N := by
  unfold restOwed
  rw [show Finset.univ.filter (fun j : Fin 8 => 0 ≤ j.val) = Finset.univ by decide]

theorem credit_split (c : Dev nD) : (Pipeline.launchCred O₀ c : sProp 𝕄)
    = iprop(((bigSep Finset.univ (fun k : Fin 8 => Pipeline.launchCred (fun d => tallyAt (dCell (px d) 1 k) () N) c)
        ∗ bigSep Finset.univ (fun k : Fin 8 => Pipeline.launchCred (fun d => tallyAt (dCell (pz d) 3 k) () N) c))
      ∗ Pipeline.launchCred (fun d => tallyAt (barCell (pz d)) () 1) c) ∗ Pipeline.launchCred (fun d => tallyAt (barCell (px d)) () 1) c) := by
  rw [show (O₀ : Dev nD → CellTallies nD τ sig Unit)
      = fun d => (((∑ k : Fin 8, tallyAt (dCell (px d) 1 k) () N) + ∑ k : Fin 8, tallyAt (dCell (pz d) 3 k) () N) + tallyAt (barCell (pz d)) () 1)
        + tallyAt (barCell (px d)) () 1 from funext fun d => by unfold O₀ owed; rw [restOwed_all, restOwed_all],
    Pipeline.launchCred_add, Pipeline.launchCred_add, Pipeline.launchCred_add,
    Pipeline.launchCred_sum Finset.univ (fun (k : Fin 8) (d : Dev nD) => tallyAt (dCell (px d) 1 k) () N),
    Pipeline.launchCred_sum Finset.univ (fun (k : Fin 8) (d : Dev nD) => tallyAt (dCell (pz d) 3 k) () N)]

theorem credit_x (c : Dev nD) (k : Fin 8) : (Pipeline.launchCred (fun d => tallyAt (dCell (px d) 1 k) () N) c : sProp 𝕄) ⊢ cred (tallyAt (dCell c 1 k) () N) :=
  Pipeline.launchCred_tallyAt _ px px px_px px_px () N c
theorem credit_z (c : Dev nD) (k : Fin 8) : (Pipeline.launchCred (fun d => tallyAt (dCell (pz d) 3 k) () N) c : sProp 𝕄) ⊢ cred (tallyAt (dCell c 3 k) () N) :=
  Pipeline.launchCred_tallyAt _ pz pz pz_pz pz_pz () N c
theorem credit_bx (c : Dev nD) : (Pipeline.launchCred (fun d => tallyAt (barCell (px d)) () 1) c : sProp 𝕄) ⊢ cred (tallyAt (barCell c) () 1) :=
  Pipeline.launchCred_tallyAt _ px px px_px px_px () 1 c
theorem credit_bz (c : Dev nD) : (Pipeline.launchCred (fun d => tallyAt (barCell (pz d)) () 1) c : sProp 𝕄) ⊢ cred (tallyAt (barCell c) () 1) :=
  Pipeline.launchCred_tallyAt _ pz pz pz_pz pz_pz () 1 c

theorem credit_two (c : Dev nD) : iprop(cred (tallyAt (barCell c) () 1) ∗ cred (tallyAt (barCell c) () 1)) ⊢ (cred (tallyAt (barCell c) () 2) : sProp 𝕄) := by
  rw [← tallyAt_add (barCell c) () 1 1]
  exact (cred_add _ _).2

/-- A device's credit: its two barrier units and its sixteen receives. -/
theorem credits (c : Dev nD) : (Pipeline.launchCred O₀ c : sProp 𝕄) ⊢ iprop(cred (tallyAt (barCell c) () 2) ∗ bigSep Finset.univ (credIn c)) := by
  rw [credit_split]
  have hx : (bigSep Finset.univ (fun k : Fin 8 => Pipeline.launchCred (fun d => tallyAt (dCell (px d) 1 k) () N) c) : sProp 𝕄)
      ⊢ bigSep Finset.univ (fun k : Fin 8 => cred (tallyAt (dCell c 1 k) () N)) := bigSep_mono fun k _ => credit_x c k
  have hz : (bigSep Finset.univ (fun k : Fin 8 => Pipeline.launchCred (fun d => tallyAt (dCell (pz d) 3 k) () N) c) : sProp 𝕄)
      ⊢ bigSep Finset.univ (fun k : Fin 8 => cred (tallyAt (dCell c 3 k) () N)) := bigSep_mono fun k _ => credit_z c k
  iintro ⟨⟨⟨Hx, Hz⟩, Hbz⟩, Hbx⟩
  isplitl [Hbz Hbx]
  · iapply (credit_two c)
    isplitl [Hbz]; · iapply (credit_bz c) $$ Hbz
    iapply (credit_bx c) $$ Hbx
  unfold credIn
  iapply zip_all
  isplitl [Hx]; · iapply hx $$ Hx
  iapply hz $$ Hz

/-! ## Dealing -/

section Deal

variable (m : (ℓ : Loc nD τ sig) → Buf (Elt F) ℓ) (ρ : Dev nD → PrngReg)

theorem cells_disjoint : Disjoint (barCells : Finset (GSem nD τ sig)) dCells := by
  rw [Finset.disjoint_left]
  rintro g h₁ h₂
  obtain ⟨c, -, rfl⟩ := Finset.mem_map.mp h₁
  obtain ⟨p, -, h⟩ := Finset.mem_map.mp h₂
  exact dma_ne_bar _ (congrArg Prod.snd h)

/-- The protocol's part of the launch element. -/
def seed : UB := launchOf barCells dCells duties
def u₀ : UU :=
  (initOf (Pipeline.cells (Pipeline.pin (pcfgs (F := F)) adm) cellOf_inj) (Pipeline.launchToks (Pipeline.pin (pcfgs (F := F)) adm) cellOf_inj), seed)

/-- It waits on device 0 until it is dealt. -/
def parked (c : Dev nD) : sProp 𝕄 := if c = 0 then BI.own (ER seed) else iprop(emp)

theorem parked_all : (bigSep Finset.univ (parked (F := F)) : sProp 𝕄) = BI.own (ER seed) := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked
  rw [if_pos rfl]
  exact BI.equiv_iff.mp sep_emp

/-- What every device may look up: the invariants, and that every barrier cell stands at round 0. -/
def shared (κ : GSem nD τ sig → ℕ) : sProp 𝕄 := iprop(invs (Xof m) (Wof m) κ ∗ bigSep barCells fun g => reached ER g 0)

instance shared_persistent (κ : GSem nD τ sig → ℕ) : BI.Persistent (shared m κ) := by unfold shared; infer_instance

/-- What one device alone holds of the protocol. -/
def single (c : Dev nD) : sProp 𝕄 :=
  iprop(atPos ER (barCell c) 0 ∅ 0
    ∗ ((dutyTok ER (barCell (px c)) 0 true ∗ dutyTok ER (barCell (pz c)) 0 false) ∗ bigSep Finset.univ (tokIn c))
    ∗ bigSep Finset.univ (fun p : Fin 4 × Fin 8 => openTok ER (dCell c p.1 p.2)))

/-- What a device starts with beside it. -/
def plain (c : Dev nD) : sProp 𝕄 :=
  iprop(StableHlo.held (c : Thread nD τ) (Pipeline.ucRefs τ sig) (Vstart m c) ∗ (cred (tallyAt (barCell c) () 2) ∗ bigSep Finset.univ (credIn c))
    ∗ (∃ r, prngReg c r) ∗ owing c (O₀ c))

theorem reached_bar (c : Dev nD) : (bigSep barCells fun g => (reached ER g 0 : sProp 𝕄)) ⊢ reached ER (barCell c) 0 :=
  bigSep_elim (Finset.mem_map_of_mem barEmb (Finset.mem_univ c))

abbrev T₀ (c : Dev nD) : sProp 𝕄 := iprop(StableHlo.held (c : Thread nD τ) (Pipeline.ucRefs τ sig) (Vstart m c) ∗ before m c)
abbrev Tₙ (c : Dev nD) : sProp 𝕄 := iprop(StableHlo.held (c : Thread nD τ) (Pipeline.ucRefs τ sig) (Vend m c) ∗ semVal (barCell c) 0)

theorem deal_one (κ : GSem nD τ sig → ℕ) (c : Dev nD) : iprop(shared m κ ∗ (single c ∗ plain m c)) ⊢ T₀ m c := by
  unfold shared single plain T₀ before dealt barIn
  iintro ⟨⟨#HI, #HR⟩, ⟨HA, ⟨HB, HT⟩, HO⟩, Hh, ⟨Hc, HC⟩, Hp, Hw⟩
  isplitl [Hh]; · iexact Hh
  isplitr [Hp Hw]
  · isplitr; · iexists κ; iexact HI
    isplitl [HA HB Hc]
    · isplitl [HA]; · iexact HA
      isplitr
      · isplitr; · iapply (reached_bar (px c)); iexact HR
        iapply (reached_bar (pz c)); iexact HR
      isplitl [HB]; · iexact HB
      iexact Hc
    isplitl [HT]; · iexact HT
    isplitl [HC]; · iexact HC
    iexact HO
  isplitl [Hp]; · iexact Hp
  iexact Hw

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barSem} from by decide, bigSep_singleton]

/-- One device's start, read as the parts above. -/
theorem start_one (c : Dev nD) :
    iprop(unscopedBufs c (fun b => m ((c : Thread nD τ).loc b)) ∗ unscopedSems0 c ∗ owes (c : Thread nD τ) (O₀ c) ∅ ∗ Pipeline.launchCred O₀ c ∗ prngReg c (ρ c) ∗ parked c)
      ⊢ (iprop(plain m c ∗ semVal (barCell c) 0 ∗ parked c) : sProp 𝕄) := by
  rw [show (unscopedBufs c (fun b => m ((c : Thread nD τ).loc b)) : sProp 𝕄) = StableHlo.held (c : Thread nD τ) (Pipeline.ucRefs τ sig) (Vstart m c) from
    Pipeline.unscopedBufs_held c (Vstart m c), unscopedSems_eq]
  unfold plain owing
  iintro ⟨Hh, Hv, Hw, Hc, Hp, HG⟩
  isplitl [Hh Hw Hc Hp]
  · isplitl [Hh]; · iexact Hh
    isplitl [Hc]; · iapply (credits c) $$ Hc
    isplitl [Hp]; · iexists (ρ c); iexact Hp
    iexists ∅; iexact Hw
  isplitl [Hv]; · iexact Hv
  iexact HG

theorem bars_all (Φ : GSem nD τ sig → sProp 𝕄) : bigSep barCells Φ = bigSep Finset.univ (fun c : Dev nD => Φ (barCell c)) := bigSep_map barEmb
theorem transfers_all (Φ : GSem nD τ sig → sProp 𝕄) :
    bigSep dCells Φ = bigSep Finset.univ (fun c : Dev nD => bigSep Finset.univ (fun p : Fin 4 × Fin 8 => Φ (dCell c p.1 p.2))) := by
  rw [bigSep_map, bigSep_univ_prod]; rfl

/-- The launch: every cell's invariant made, the transfers' cells not yet open, and everything dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(plain m c ∗ semVal (barCell c) 0 ∗ parked c) : sProp 𝕄) from bigSep_mono fun c _ => start_one m ρ c) $$ H
  ihave H := unzip_all $$ H; icases H with ⟨HB, H⟩
  ihave H := unzip_all $$ H; icases H with ⟨Hv, HG⟩
  ihave Hu := (Entails.of_eq (parked_all (F := F))) $$ HG
  ihave Hv := (Entails.of_eq (bars_all (F := F) (fun g => semVal g 0)).symm) $$ Hv
  imod (Rounds.fund_launch ER (exRd (Xof m) (Wof m)) cells_disjoint (fun g _ h => h) duties) $$ [Hv Hu] with ⟨%κ, -, #Hinv, #Hr, Hat, Hopen, Htok⟩
  · isplitl [Hv]; · iexact Hv
    iexact Hu
  ihave Hat := (Entails.of_eq (bars_all (F := F) (fun g => atPos ER g 0 ∅ 0))) $$ Hat
  ihave Hopen := (Entails.of_eq (transfers_all (F := F) (fun g => openTok ER g))) $$ Hopen
  ihave Htok := (Entails.of_eq (tokens_dealt (F := F))) $$ Htok
  imodintro
  iapply (bigSep_with_persistent (R := shared m κ) (Φ := fun c => iprop(single c ∗ plain m c)) fun c _ => deal_one m κ c)
  isplitr
  · unfold shared invs
    isplitr; · iexact Hinv
    iexact Hr
  iapply zip_all
  isplitr [HB]
  · unfold single
    iapply zip_all; isplitl [Hat]; · iexact Hat
    iapply zip_all; isplitl [Htok]; · iexact Htok
    iexact Hopen
  iexact HB

/-! ## The run -/

theorem unscoped_sem : ∀ sm : SemLoc sig, sm.isScoped .tc = false → sm = .reg barSem := by decide

theorem ends_split (c : Dev nD) (W : Valuation τ sig (Elt F)) (r : Ref sig .tc) (hr : Proc.devRef .tc r ∈ Pipeline.ucRefs τ sig) :
    (StableHlo.held (c : Thread nD τ) (Pipeline.ucRefs τ sig) W : sProp 𝕄) ⊢ iprop(((c : Thread nD τ).loc r) ↦{fullShare} (W (Proc.devRef .tc r))) :=
  bigSep_elim hr

/-- Every buffer of the program ends as the segments leave it. -/
def EndsAt (c : Dev nD) (s : MemSt nD τ sig (Elt F)) : Prop :=
  s.mem ((c : Thread nD τ).loc main_arg0) = Vend m c (Proc.devRef .tc main_arg0) ∧ s.mem ((c : Thread nD τ).loc main_arg1) = Vend m c (Proc.devRef .tc main_arg1)
    ∧ s.mem ((c : Thread nD τ).loc main_v3) = Vend m c (Proc.devRef .tc main_v3)

theorem mem_uc0 : Proc.devRef .tc main_arg0 ∈ Pipeline.ucRefs τ sig := Finset.mem_filter.mpr ⟨StableHlo.devRef_mem_tcRefs _, by decide⟩
theorem mem_uc1 : Proc.devRef .tc main_arg1 ∈ Pipeline.ucRefs τ sig := Finset.mem_filter.mpr ⟨StableHlo.devRef_mem_tcRefs _, by decide⟩
theorem mem_uc3 : Proc.devRef .tc main_v3 ∈ Pipeline.ucRefs τ sig := Finset.mem_filter.mpr ⟨StableHlo.devRef_mem_tcRefs _, by decide⟩

/-- Three buffers of all those held. -/
theorem ends_three (c : Dev nD) (W : Valuation τ sig (Elt F)) :
    (StableHlo.held (c : Thread nD τ) (Pipeline.ucRefs τ sig) W : sProp 𝕄)
      ⊢ iprop((((c : Thread nD τ).loc main_arg0) ↦{fullShare} (W (Proc.devRef .tc main_arg0))) ∗ (((c : Thread nD τ).loc main_arg1) ↦{fullShare} (W (Proc.devRef .tc main_arg1)))
        ∗ (((c : Thread nD τ).loc main_v3) ↦{fullShare} (W (Proc.devRef .tc main_v3)))) := by
  have hs : ({Proc.devRef .tc main_arg0, Proc.devRef .tc main_arg1, Proc.devRef .tc main_v3} : Finset (DevRef τ sig)) ⊆ Pipeline.ucRefs τ sig := by
    intro b hb
    rcases Finset.mem_insert.mp hb with rfl | hb
    · exact mem_uc0
    rcases Finset.mem_insert.mp hb with rfl | hb
    · exact mem_uc1
    rw [Finset.mem_singleton.mp hb]; exact mem_uc3
  rw [StableHlo.held_sub_split (c : Thread nD τ) hs W]
  iintro ⟨H, -⟩
  iapply (show (StableHlo.held (c : Thread nD τ) {Proc.devRef .tc main_arg0, Proc.devRef .tc main_arg1, Proc.devRef .tc main_v3} W : sProp 𝕄)
      ⊢ iprop((((c : Thread nD τ).loc main_arg0) ↦{fullShare} (W (Proc.devRef .tc main_arg0))) ∗ (((c : Thread nD τ).loc main_arg1) ↦{fullShare} (W (Proc.devRef .tc main_arg1)))
        ∗ (((c : Thread nD τ).loc main_v3) ↦{fullShare} (W (Proc.devRef .tc main_v3)))) from Entails.of_eq (by
    unfold StableHlo.held
    rw [bigSep_insert (by decide), bigSep_insert (by decide), bigSep_singleton]
    rfl)) $$ H

set_option backward.isDefEq.respectTransparency.types false in
/-- The run: from any memory with zero counters every fair execution on the eight devices ends, and at the end the arguments are
    unchanged, the result is what the segments leave, and every semaphore counter is zero. -/
theorem run_main : θ_run defs (onTc (τ := τ) (main (F := F))) ⟨m, fun _ => 0, ρ⟩
    (fun r => (∀ c : Dev nD, r.2.mem ((c : Thread nD τ).loc main_v3) = Vend m c (Proc.devRef .tc main_v3)
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := by
      refine ⟨fun c => .rfl, fun c => call_pre m c, fun c => call_post m c, fun c => ?_⟩
      show iprop(StableHlo.held (c : Thread nD τ) (Pipeline.ucRefs τ sig) (Vend m c) ∗ after c)
        ⊢ iprop(Tₙ m c ∗ ∃ W, owes (c : Thread nD τ) (0 : CellTallies nD τ sig Unit) W)
      unfold after owing
      iintro ⟨Hh, Hb, HO⟩
      isplitr [HO]
      · isplitl [Hh] <;> iassumption
      · iexact HO)
    (hinit := init m ρ)
    (QY := fun c s => EndsAt m c s ∧ s.sem (barCell c) = 0)
    (hfin := fun c s' => by
      dsimp only [Tₙ]
      iintro ⟨⟨Hh, Hb⟩, HSI⟩
      ihave Hh := (ends_three c (Vend m c)) $$ Hh
      icases Hh with ⟨H0, H1, H3⟩
      icombine HSI H0 gives %h0
      icombine HSI H1 gives %h1
      icombine HSI H3 gives %h3
      icombine HSI Hb gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => ⟨(h c).1.2.2, (h c).1.1.trans (end_arg0 m c), (h c).1.2.1.trans (end_arg1 m c)⟩,
      sem_eq_zero hs fun c sm hsm => by
        obtain rfl := unscoped_sem sm hsm
        exact (h c).2⟩)

end Deal

end Cert.KernelIdeal

end
-- ==== Proof.Value.lean ====
/- What the kernel computes over the extended reals: each finished row is the whole product's, the two partners' halves added. -/
module

public import proofs.«01_k».proof.Proof.Launch
public import Idealize.ShloMosaic.Lib.Pointwise

@[expose] public section

set_option maxRecDepth 16384

noncomputable section

namespace Cert.KernelIdeal

open Idealize.ShloMosaic
open Idealize.ShloMosaic.TcCoe
open Cert.KernelIdeal.Gen

/-! ## Where the partners lie in the mesh -/

/-- The x-partner has the same last mesh coordinate and the other first one. -/
theorem px_val : ∀ c : Dev nD, (px c).val % 2 = c.val % 2 ∧ (px c).val / 4 = 1 - c.val / 4 := by decide
/-- The z-partner has the same first mesh coordinate and the other last one. -/
theorem pz_val : ∀ c : Dev nD, (pz c).val % 2 = 1 - c.val % 2 ∧ (pz c).val / 4 = c.val / 4 := by decide

/-! ## The body's values at an index -/

/-- A sent chunk: row `r` of the operand times column `n` of the weights. -/
theorem chunkVal_at (w : Vec Ideal S512x1024 .bf16) (v : Vec Ideal S64x8x64 .bf16) (r : Fin 64) (n : Fin 1024) :
    chunkVal w v (ix2 r n) = ∑ q : Fin 512, (v (ix3 r ⟨q.val / 64, by omega⟩ ⟨q.val % 64, by omega⟩) : EReal) * w (ix2 q n) := by
  unfold chunkVal
  pointwise [k0_pay4, k0_pay1]

/-- An own batch: the same over its 256 rows. -/
theorem mineVal_at (w : Vec Ideal S512x1024 .bf16) (v : Vec Ideal S256x8x64 .bf16) (r : Fin 256) (n : Fin 1024) :
    mineVal w v (ix2 r n) = ∑ q : Fin 512, (v (ix3 r ⟨q.val / 64, by omega⟩ ⟨q.val % 64, by omega⟩) : EReal) * w (ix2 q n) := by
  unfold mineVal
  pointwise [k0_pay11, k0_pay1]

/-- A finished row: the own product's row, plus the row received. -/
theorem finVal_at (k : Fin 8) (a : FVec Ideal S256x1024 .f32) (b : FVec Ideal S64x1024 .bf16) (r : Fin 64) (n : Fin 1024) :
    finVal k a (lead b) (ix2 r n) = (a (ix2 ⟨64 * (k.val % 4) + r.val, by omega⟩ n) : EReal) + b (ix2 r n) := by
  unfold finVal lead
  pointwise

/-! ## The exchanged rows -/

section Rows

variable (X : Dev nD → Vec Ideal S2048x8x64 .bf16) (Wt : Dev nD → Vec Ideal S512x1024 .bf16)

/-- Device `d`'s half of the product at row `p` and column `n`: the sum over its own 512 contraction indices. -/
def half (d : Dev nD) (p : Fin 2048) (n : Fin 1024) : EReal :=
  ∑ q : Fin 512, (X d (ix3 p ⟨q.val / 64, by omega⟩ ⟨q.val % 64, by omega⟩) : EReal) * Wt d (ix2 q n)

/-- The loaded weights are the device's weights. -/
theorem wv_at (c : Dev nD) (q : Fin 512) (n : Fin 1024) : wv Wt c (ix2 q n) = Wt c (ix2 q n) := by
  unfold wv
  congr 1
  funext a
  match a with
  | ⟨0, _⟩ => exact Fin.ext ((ValueKit.rect_emb_unit_val _ _ _ _ 0).trans (Nat.zero_add _))
  | ⟨1, _⟩ => exact Fin.ext ((ValueKit.rect_emb_unit_val _ _ _ _ 1).trans (Nat.zero_add _))

/-- Rows of the operand taken from row `o` on: which elements they are. -/
theorem operand_emb {sz : Fin 3 → ℕ} {off : Fin 3 → ℕ} {inb : ∀ a, off a + sz a ≤ S2048x8x64.size a} {o : ℕ} (h : off = ![o, 0, 0])
    (j : (Rect.unit (s := S2048x8x64) off sz inb).shape.Idx) (p : Fin 2048) (a : Fin 8) (b : Fin 64)
    (hp : o + (j 0).val = p.val) (ha : (j 1).val = a.val) (hb : (j 2).val = b.val) :
    (Rect.unit (s := S2048x8x64) off sz inb).emb j = ix3 p a b := by
  subst h
  funext x
  match x with
  | ⟨0, _⟩ => exact Fin.ext ((ValueKit.rect_emb_unit_val _ _ _ _ 0).trans hp)
  | ⟨1, _⟩ => exact Fin.ext (((ValueKit.rect_emb_unit_val _ _ _ _ 1).trans (Nat.zero_add _)).trans ha)
  | ⟨2, _⟩ => exact Fin.ext (((ValueKit.rect_emb_unit_val _ _ _ _ 2).trans (Nat.zero_add _)).trans hb)

/-- A row of a device's own batch is its half of the product at the row where the batch lies. -/
theorem mine_at (c : Dev nD) (i : Fin 2) (r : Fin 256) (n : Fin 1024) (p : Fin 2048)
    (hp : p.val = 1024 * (c.val % 2) + 512 * i.val + 256 * (c.val / 4) + r.val) :
    mine X Wt c i (ix2 r n) = half X Wt c p n := by
  unfold mine half
  refine (mineVal_at _ _ r n).trans (Finset.sum_congr rfl fun q _ => ?_)
  rw [wv_at]
  exact congrArg (fun z => (X c z : EReal) * Wt c (ix2 q n)) (operand_emb (k0_off2_eq c i) _ p _ _ hp.symm rfl rfl)

/-- A row of a chunk is the sender's half of the product at the row that it computes for its x-partner. -/
theorem chunk_at (c : Dev nD) (k : Fin 8) (r : Fin 64) (n : Fin 1024) (p : Fin 2048)
    (hp : p.val = (1024 * (c.val % 2) + 512 * (k.val / 4) + 64 * (k.val % 4) + 256) - 256 * (c.val / 4) + r.val) :
    chunk X Wt c k (ix2 r n) = half X Wt c p n := by
  unfold chunk half
  refine (chunkVal_at _ _ r n).trans (Finset.sum_congr rfl fun q _ => ?_)
  rw [wv_at]
  exact congrArg (fun z => (X c z : EReal) * Wt c (ix2 q n)) (operand_emb (k0_off1_eq c (hi k) (lo k)) _ p _ _ hp.symm rfl rfl)

/-- A finished row is the two x-partners' halves added. -/
theorem fin_at (c : Dev nD) (k : Fin 8) (r : Fin 64) (n : Fin 1024) (p : Fin 2048)
    (hp : p.val = 1024 * (c.val % 2) + 512 * (k.val / 4) + 256 * (c.val / 4) + 64 * (k.val % 4) + r.val) :
    fin X Wt c k (ix2 r n) = half X Wt c p n + half X Wt (px c) p n := by
  have hc : c.val < 8 := c.isLt
  unfold fin
  rw [finVal_at, mine_at X Wt c (hi k) _ n p (by show p.val = 1024 * (c.val % 2) + 512 * (k.val / 4) + 256 * (c.val / 4) + (64 * (k.val % 4) + r.val); omega),
    chunk_at X Wt (px c) k r n p (by rw [(px_val c).1, (px_val c).2]; omega)]

end Rows

/-! ## The halves joined -/

section Join

variable (O : (⟨4, ![4, 512, 16, 64]⟩ : Shape).Idx → EReal) (W : (⟨2, ![1024, 1024]⟩ : Shape).Idx → EReal)

/-- One term of the whole product: batch `b`, row `s`, column `n`, contraction index `q`. -/
def term (b : Fin 4) (s : Fin 512) (n : Fin 1024) (q : Fin 1024) : EReal :=
  O (ix4 b s ⟨q.val / 64, by omega⟩ ⟨q.val % 64, by omega⟩) * W (ix2 q n)

/-- The whole product. -/
def whole (b : Fin 4) (s : Fin 512) (n : Fin 1024) : EReal := ∑ q : Fin 1024, term O W b s n q

/-- The whole product is its first 512 terms plus its last 512. -/
theorem whole_split (b : Fin 4) (s : Fin 512) (n : Fin 1024) :
    whole O W b s n = (∑ q : Fin 512, term O W b s n ⟨q.val, by omega⟩) + ∑ q : Fin 512, term O W b s n ⟨512 + q.val, by omega⟩ :=
  Fin.sum_univ_add (a := 512) (b := 512) (term O W b s n)

variable (X : Dev nD → Vec Ideal S2048x8x64 .bf16) (Wt : Dev nD → Vec Ideal S512x1024 .bf16)

/-- What the devices hold of the activations: by the first mesh coordinate, one half of the heads. -/
def HoldsX : Prop := ∀ (d : Dev nD) (p : Fin 2048) (h : Fin 8) (e : Fin 64),
  (X d (ix3 p h e) : EReal) = O (ix4 ⟨p.val / 512, by omega⟩ ⟨p.val % 512, by omega⟩ ⟨8 * (d.val / 4) + h.val, by have := d.isLt; simp only [nD] at this; omega⟩ e)
/-- And of the weights: the same half of the rows. -/
def HoldsW : Prop := ∀ (d : Dev nD) (q : Fin 512) (n : Fin 1024),
  (Wt d (ix2 q n) : EReal) = W (ix2 ⟨512 * (d.val / 4) + q.val, by have := d.isLt; simp only [nD] at this; omega⟩ n)

variable {O W X Wt}

/-- A device's half of the product is the sum of the 512 terms that its first mesh coordinate names. -/
theorem half_at (hX : HoldsX O X) (hW : HoldsW W Wt) (d : Dev nD) (p : Fin 2048) (n : Fin 1024) (b : Fin 4) (s : Fin 512)
    (hb : p.val / 512 = b.val) (hs : p.val % 512 = s.val) (x : ℕ) (hx : d.val / 4 = x) (hx2 : x < 2) :
    half X Wt d p n = ∑ q : Fin 512, term O W b s n ⟨512 * x + q.val, by omega⟩ := by
  unfold half term
  refine Finset.sum_congr rfl fun q _ => ?_
  subst hx
  rw [hX, hW]
  congr 2
  funext a
  match a with
  | ⟨0, _⟩ => exact Fin.ext hb
  | ⟨1, _⟩ => exact Fin.ext hs
  | ⟨2, _⟩ => exact Fin.ext (by show 8 * (d.val / 4) + q.val / 64 = (512 * (d.val / 4) + q.val) / 64; omega)
  | ⟨3, _⟩ => exact Fin.ext (by show q.val % 64 = (512 * (d.val / 4) + q.val) % 64; omega)

/-- The two x-partners' halves add up to the whole product. -/
theorem halves (hX : HoldsX O X) (hW : HoldsW W Wt) (d : Dev nD) (p : Fin 2048) (n : Fin 1024) (b : Fin 4) (s : Fin 512)
    (hb : p.val / 512 = b.val) (hs : p.val % 512 = s.val) :
    half X Wt d p n + half X Wt (px d) p n = whole O W b s n := by
  have hd : d.val < 8 := d.isLt
  have hpx := (px_val d).2
  have e0 : (∑ q : Fin 512, term O W b s n ⟨512 * 0 + q.val, by omega⟩) = ∑ q : Fin 512, term O W b s n ⟨q.val, by omega⟩ :=
    Finset.sum_congr rfl fun q _ => congrArg _ (Fin.ext (by show 512 * 0 + q.val = q.val; omega))
  have e1 : (∑ q : Fin 512, term O W b s n ⟨512 * 1 + q.val, by omega⟩) = ∑ q : Fin 512, term O W b s n ⟨512 + q.val, by omega⟩ := rfl
  rw [whole_split]
  by_cases h : d.val / 4 = 0
  · rw [half_at hX hW d p n b s hb hs 0 h (by omega), half_at hX hW (px d) p n b s hb hs 1 (by omega) (by omega), e0, e1]
  · rw [half_at hX hW d p n b s hb hs 1 (by omega) (by omega), half_at hX hW (px d) p n b s hb hs 0 (by omega) (by omega), e0, e1]
    exact add_comm _ _

/-- What a device leaves in its result: the whole product at the rows that its first mesh coordinate names. -/
theorem outAt_whole (hX : HoldsX O X) (hW : HoldsW W Wt) (c : Dev nD) (R : Fin 1024) (n : Fin 1024) (b : Fin 4) (s : Fin 512)
    (hb : R.val / 256 = b.val) (hs : 256 * (c.val / 4) + R.val % 256 = s.val) :
    (outAt X Wt c (ix2 R n) : EReal) = whole O W b s n := by
  have hc : c.val < 8 := c.isLt
  have hR : R.val < 1024 := R.isLt
  have hpz := (pz_val c).2
  rw [outAt_of X Wt c (ix2 R n) ⟨R.val / 64 % 8, by omega⟩ (ix2 ⟨R.val % 64, by omega⟩ n) rfl rfl rfl]
  by_cases h : R.val / 512 = c.val % 2
  · refine (congrFun (if_pos h) _).trans ?_
    rw [fin_at X Wt c _ _ n ⟨512 * (R.val / 256) + 256 * (c.val / 4) + R.val % 256, by omega⟩ (by
      show 512 * (R.val / 256) + 256 * (c.val / 4) + R.val % 256
        = 1024 * (c.val % 2) + 512 * (R.val / 64 % 8 / 4) + 256 * (c.val / 4) + 64 * (R.val / 64 % 8 % 4) + R.val % 64
      omega)]
    exact halves hX hW c _ n b s (by show (512 * (R.val / 256) + 256 * (c.val / 4) + R.val % 256) / 512 = b.val; omega)
      (by show (512 * (R.val / 256) + 256 * (c.val / 4) + R.val % 256) % 512 = s.val; omega)
  · refine (congrFun (if_neg h) _).trans ?_
    rw [fin_at X Wt (pz c) _ _ n ⟨512 * (R.val / 256) + 256 * (c.val / 4) + R.val % 256, by omega⟩ (by
      show 512 * (R.val / 256) + 256 * (c.val / 4) + R.val % 256
        = 1024 * ((pz c).val % 2) + 512 * (R.val / 64 % 8 / 4) + 256 * ((pz c).val / 4) + 64 * (R.val / 64 % 8 % 4) + R.val % 64
      rw [(pz_val c).1, (pz_val c).2]
      omega)]
    exact halves hX hW (pz c) _ n b s (by show (512 * (R.val / 256) + 256 * (c.val / 4) + R.val % 256) / 512 = b.val; omega)
      (by show (512 * (R.val / 256) + 256 * (c.val / 4) + R.val % 256) % 512 = s.val; omega)

end Join

end Cert.KernelIdeal

end
-- ==== Proof.Result.lean ====
/- The kernel's result buffer and the reference's, at an index: both are the whole product. -/
module

public import proofs.«01_k».proof.Proof.Value
public import proofs.«01_k».proof.Proof.Gen.ReferenceIdeal.Run

@[expose] public section

set_option maxRecDepth 16384

noncomputable section

namespace Cert.KernelIdeal

open Idealize.ShloMosaic
open Idealize.ShloMosaic.TcCoe
open Cert.KernelIdeal.Gen

variable (m : (ℓ : Loc nD τ sig) → Buf (Elt Ideal) ℓ)

/-! ## What the call is given -/

/-- The activations' block is their whole array. -/
theorem block_x (c : Dev nD) (j : S2048x8x64.Idx) : Xof m c j = V m c main_v1 j := by
  unfold Xof iblk
  refine congrArg (V m c main_v1) (funext fun a => Fin.ext ?_)
  refine (ValueKit.rect_emb_unit_val _ _ _ _ a).trans ?_
  match a with
  | ⟨0, _⟩ => exact Nat.zero_add _
  | ⟨1, _⟩ => exact Nat.zero_add _
  | ⟨2, _⟩ => exact Nat.zero_add _

/-- The same of the weights. -/
theorem block_w (c : Dev nD) (j : S512x1024.Idx) : Wof m c j = V m c main_arg1 j := by
  unfold Wof iblk
  refine congrArg (V m c main_arg1) (funext fun a => Fin.ext ?_)
  refine (ValueKit.rect_emb_unit_val _ _ _ _ a).trans ?_
  match a with
  | ⟨0, _⟩ => exact Nat.zero_add _
  | ⟨1, _⟩ => exact Nat.zero_add _

/-- The activations as the call gets them: the argument with its two leading axes joined. -/
theorem arg_x (c : Dev nD) : V m c main_v1
    = shapeCast S2048x8x64 (m ((c : Thread nD τ).loc main_arg0) : S4x512x8x64.Idx → EReal) shapeCasts_S4x512x8x64_S2048x8x64 := by
  show StableHlo.after (List.flatten [hostOps0]) (fun b => m (c, b)) (Proc.devRef .tc main_v1) = _
  rw [List.flatten_cons, List.flatten_nil, List.append_nil, StableHlo.after_cons, StableHlo.after_nil]
  exact StableHlo.reshape_result _ _ _ _ _ _ _

/-- Joining the leading axes, at an index. -/
theorem joined_at (A : S4x512x8x64.Idx → EReal) (p : Fin 2048) (h : Fin 8) (e : Fin 64) :
    shapeCast S2048x8x64 A shapeCasts_S4x512x8x64_S2048x8x64 (ix3 p h e) = A (ix4 ⟨p.val / 512, by omega⟩ ⟨p.val % 512, by omega⟩ h e) := by
  pointwise

/-- What the body finds of the activations, at an index of the argument. -/
theorem Xof_at (c : Dev nD) (p : Fin 2048) (h : Fin 8) (e : Fin 64) :
    (Xof m c (ix3 p h e) : EReal) = (m ((c : Thread nD τ).loc main_arg0) : S4x512x8x64.Idx → EReal)
      (ix4 ⟨p.val / 512, by omega⟩ ⟨p.val % 512, by omega⟩ h e) := by
  exact (block_x m c _).trans ((congrFun (arg_x m c) _).trans (joined_at _ p h e))

/-- What the body finds of the weights is the argument. -/
theorem Wof_at (c : Dev nD) (j : S512x1024.Idx) :
    (Wof m c j : EReal) = (m ((c : Thread nD τ).loc main_arg1) : S512x1024.Idx → EReal) j := by
  rw [block_w, V_main_arg1]

/-! ## What the call leaves, and what is returned -/

/-- The call leaves in its result what the body stored there. -/
theorem call_out (c : Dev nD) : (dat m c).arrAt 2 cfg0.N = outAt (Xof m) (Wof m) c := by
  refine (dat m c).arrAt_eq_of_after_last 2 t0_0 (by decide +kernel) _ fun j => ?_
  rw [after_2]
  rfl

/-- The result: the call's array with its rows split by batch. -/
theorem end_out (c : Dev nD) : Vend m c (Proc.devRef .tc main_v3)
    = shapeCast S4x256x1024 (outAt (Xof m) (Wof m) c : S1024x1024.Idx → EReal) shapeCasts_S1024x1024_S4x256x1024 := by
  unfold Vend
  rw [StableHlo.after_cons, StableHlo.after_nil, ← call_out m c, back_arr m c 2]
  exact StableHlo.reshape_result _ _ _ _ _ _ _

/-- Splitting the rows by batch, at an index. -/
theorem split_at (A : S1024x1024.Idx → EReal) (b : Fin 4) (r : Fin 256) (n : Fin 1024) :
    shapeCast S4x256x1024 A shapeCasts_S1024x1024_S4x256x1024 (ix3 b r n) = A (ix2 ⟨b.val * 256 + r.val, by omega⟩ n) := by
  pointwise

/-- The returned array at an index. -/
theorem end_out_at (c : Dev nD) (b : Fin 4) (r : Fin 256) (n : Fin 1024) :
    (Vend m c (Proc.devRef .tc main_v3) : S4x256x1024.Idx → EReal) (ix3 b r n)
      = outAt (Xof m) (Wof m) c (ix2 ⟨256 * b.val + r.val, by omega⟩ n) := by
  refine (congrFun (end_out m c) _).trans ((split_at _ b r n).trans ?_)
  exact congrArg (fun x => outAt (Xof m) (Wof m) c (ix2 x n)) (Fin.ext (by show b.val * 256 + r.val = 256 * b.val + r.val; omega))

/-! ## Over the mesh -/

/-- Where the devices' arguments are their blocks of the whole arrays `O` and `W`, device `c`'s result is its block of the
    whole product: in each batch, the half of the rows that its first mesh coordinate names. -/
theorem end_block (O : (⟨4, ![4, 512, 16, 64]⟩ : Shape).Idx → EReal) (W : (⟨2, ![1024, 1024]⟩ : Shape).Idx → EReal)
    (hO : ∀ c : Dev nD, (m ((c : Thread nD τ).loc main_arg0) : S4x512x8x64.Idx → EReal)
      = Layout.blockN ⟨4, ![4, 512, 8, 64]⟩ ⟨4, ![4, 512, 16, 64]⟩ (Layout.meshBlock [2, 2, 2] ![[], [], [0], []] c) O)
    (hW : ∀ c : Dev nD, (m ((c : Thread nD τ).loc main_arg1) : S512x1024.Idx → EReal)
      = Layout.blockN ⟨2, ![512, 1024]⟩ ⟨2, ![1024, 1024]⟩ (Layout.meshBlock [2, 2, 2] ![[0], []] c) W)
    (P : (⟨3, ![4, 512, 1024]⟩ : Shape).Idx → EReal) (hP : ∀ b s n, P (ix3 b s n) = whole O W b s n) (c : Dev nD) :
    (Vend m c (Proc.devRef .tc main_v3) : S4x256x1024.Idx → EReal)
      = Layout.blockN ⟨3, ![4, 256, 1024]⟩ ⟨3, ![4, 512, 1024]⟩ (Layout.meshBlock [2, 2, 2] ![[], [0], []] c) P := by
  have coord : ∀ d : Dev nD, Layout.meshLin [2, 2, 2] d.val [0] = d.val / 4 := by decide
  have hX : HoldsX O (Xof m) := fun d p h e => by
    rw [Xof_at, hO d]
    refine congrArg O (funext fun a => ?_)
    match a with
    | ⟨0, _⟩ => exact Fin.ext (by show 0 * 4 + p.val / 512 = p.val / 512; omega)
    | ⟨1, _⟩ => exact Fin.ext (by show 0 * 512 + p.val % 512 = p.val % 512; omega)
    | ⟨2, _⟩ => exact Fin.ext (by show Layout.meshLin [2, 2, 2] d.val [0] * 8 + h.val = 8 * (d.val / 4) + h.val; rw [coord]; omega)
    | ⟨3, _⟩ => exact Fin.ext (by show 0 * 64 + e.val = e.val; omega)
  have hY : HoldsW W (Wof m) := fun d q n => by
    rw [Wof_at, hW d]
    refine congrArg W (funext fun a => ?_)
    match a with
    | ⟨0, _⟩ => exact Fin.ext (by show Layout.meshLin [2, 2, 2] d.val [0] * 512 + q.val = 512 * (d.val / 4) + q.val; rw [coord]; omega)
    | ⟨1, _⟩ => exact Fin.ext (by show 0 * 1024 + n.val = n.val; omega)
  funext j
  obtain ⟨b, r, n, rfl⟩ : ∃ (b : Fin 4) (r : Fin 256) (n : Fin 1024), j = ix3 b r n := ⟨j 0, j 1, j 2, eq_ix3 j⟩
  have hc : c.val < 8 := c.isLt
  rw [end_out_at, outAt_whole hX hY c _ n b ⟨256 * (c.val / 4) + r.val, by omega⟩
    (by show (256 * b.val + r.val) / 256 = b.val; omega) (by show 256 * (c.val / 4) + (256 * b.val + r.val) % 256 = 256 * (c.val / 4) + r.val; omega), ← hP]
  refine congrArg P (funext fun a => ?_)
  match a with
  | ⟨0, _⟩ => exact Fin.ext (by show b.val = 0 * 4 + b.val; omega)
  | ⟨1, _⟩ => exact Fin.ext (by show 256 * (c.val / 4) + r.val = Layout.meshLin [2, 2, 2] c.val [0] * 256 + r.val; rw [coord]; omega)
  | ⟨2, _⟩ => exact Fin.ext (by show n.val = 0 * 1024 + n.val; omega)

end Cert.KernelIdeal

namespace Cert.ReferenceIdeal

open Idealize.ShloMosaic
open Cert.ReferenceIdeal.Gen

/-- The reference's result at an index. -/
theorem result_at (O : FVec Ideal S4x512x16x64 .bf16) (W : FVec Ideal S1024x1024 .bf16) (b : Fin 4) (s : Fin 512) (n : Fin 1024) :
    (truncf .bf16 (Host.dotGeneral dot_S4x512x1024_S1024x1024_S4x512x1024_2_0_01_1_n_n none
      (shapeCast S4x512x1024 (extf .f32 O bitsLt_bf16_f32) shapeCasts_S4x512x16x64_S4x512x1024) (extf .f32 W bitsLt_bf16_f32)) bitsLt_bf16_f32
      : FVec Ideal S4x512x1024 .bf16) (ix3 b s n) = Cert.KernelIdeal.whole O W b s n := by
  unfold Cert.KernelIdeal.whole Cert.KernelIdeal.term
  pointwise

end Cert.ReferenceIdeal

end
-- ==== Proof.lean ====
/- The proof of the claims: the three frames, the reading of the kernel over the extended reals, and its result. -/
module

public import Idealize.ShloMosaic.Lib.Tactic
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Result

@[expose] public section

noncomputable section

namespace Cert.Proof

open Idealize.ShloMosaic Idealize.SL.Sem

local instance : Cert.Kernel.Facts := Cert.Kernel.Gen.facts
local instance : Cert.KernelIdeal.Facts := Cert.KernelIdeal.Gen.facts

/-- The two readings of the kernel have one text: the same bodies, -/
theorem defs_same : Cert.Kernel.defs (F := Bits) = Cert.KernelIdeal.defs := by sl_kernel_rfl

/-- and the same host program. -/
theorem main_same : Cert.Kernel.main (F := Bits) = Cert.KernelIdeal.main := by sl_kernel_rfl

/-- The kernel as compiled ends, leaves its arguments unchanged and every counter at zero. -/
theorem frame_kernel : Cert.quiescent_Kernel := fun m ρ _ => by
  rw [defs_same, main_same]
  exact (θ_run Cert.KernelIdeal.defs _ _).mono (fun _ h => ⟨fun c => (h.1 c).2, h.2⟩)
    (Cert.KernelIdeal.run_main (F := Bits) m ρ)

/-- So does the kernel read over the extended reals. -/
theorem frame_ideal : Cert.quiescent_KernelIdeal := fun m ρ _ =>
  (θ_run Cert.KernelIdeal.defs _ _).mono (fun _ h => ⟨fun c => (h.1 c).2, h.2⟩) (Cert.KernelIdeal.run_main (F := Ideal) m ρ)

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals each device's result is its block of the reference's. -/
theorem value : Cert.algebraic_KernelIdeal_ReferenceIdeal := fun m g m' g' _ h =>
  ⟨_, (θ_run Cert.KernelIdeal.defs _ _).mono
      (fun _ hr c => ⟨(hr.1 c).1.trans (Cert.KernelIdeal.end_block m _ _ (fun d => (h d).1) (fun d => (h d).2) _
        (fun b s n => Cert.ReferenceIdeal.result_at _ _ b s n) c), (hr.1 c).2⟩) (Cert.KernelIdeal.run_main (F := Ideal) m g),
    (θ_run Cert.ReferenceIdeal.defs _ _).mono (fun _ hr => hr 0) (Cert.ReferenceIdeal.Value.run (F := Ideal) m' g')⟩

/-- All the claims. -/
theorem claim : Cert.Claim := ⟨Cert.Kernel.Gen.facts, Cert.KernelIdeal.Gen.facts, Cert.ReferenceIdeal.Gen.facts,
  frame_kernel, frame_ideal, frame_reference, trivial, value⟩

end Cert.Proof

end
